-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 4096]⟩ ⟨2, ![4096, 4096]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 512]⟩ ⟨2, ![4096, 2048]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x4096 : Shape := ⟨2, ![1024, 4096]⟩
abbrev S4096x2048 : Shape := ⟨2, ![4096, 2048]⟩
abbrev S4096x512 : Shape := ⟨2, ![4096, 512]⟩
abbrev S2x4096x256 : Shape := ⟨3, ![2, 4096, 256]⟩
abbrev S1024x2048 : Shape := ⟨2, ![1024, 2048]⟩
abbrev S4x1024x512 : Shape := ⟨3, ![4, 1024, 512]⟩
abbrev S3x1024x512 : Shape := ⟨3, ![3, 1024, 512]⟩
abbrev S8x128 : Shape := ⟨2, ![8, 128]⟩
abbrev S3x8x128 : Shape := ⟨3, ![3, 8, 128]⟩
abbrev S2 : Shape := ⟨1, ![2]⟩
abbrev S3 : Shape := ⟨1, ![3]⟩
abbrev S1 : Shape := ⟨1, ![1]⟩
abbrev S_ : Shape := ⟨0, ![]⟩
abbrev S1x4096x256 : Shape := ⟨3, ![1, 4096, 256]⟩
abbrev S4096x256 : Shape := ⟨2, ![4096, 256]⟩
abbrev S1024x256 : Shape := ⟨2, ![1024, 256]⟩
abbrev S1x1024x256 : Shape := ⟨3, ![1, 1024, 256]⟩
abbrev S1x1x1 : Shape := ⟨3, ![1, 1, 1]⟩
abbrev S1x8x128 : Shape := ⟨3, ![1, 8, 128]⟩
abbrev S1024x512 : Shape := ⟨2, ![1024, 512]⟩
abbrev S1x1024x512 : Shape := ⟨3, ![1, 1024, 512]⟩

abbrev nBuf : Space → Nat
  | .hbm => 3
  | .vmem => 10
  | .smem => 0
  | _ => 0

abbrev bufTy : (tb : Table) → Fin (tcTables nBuf tb) → BufTy
  | .hbm, ⟨0, _⟩ => ⟨S1024x4096, .f32⟩
  | .hbm, ⟨1, _⟩ => ⟨S4096x2048, .f32⟩
  | .hbm, ⟨2, _⟩ => ⟨S4096x512, .f32⟩
  | .local _ .vmem, ⟨0, _⟩ => ⟨S1024x4096, .f32⟩
  | .local _ .vmem, ⟨1, _⟩ => ⟨S4096x512, .f32⟩
  | .local _ .vmem, ⟨2, _⟩ => ⟨S1024x4096, .bf16⟩
  | .local _ .vmem, ⟨3, _⟩ => ⟨S2x4096x256, .f32⟩
  | .local _ .vmem, ⟨4, _⟩ => ⟨S2x4096x256, .bf16⟩
  | .local _ .vmem, ⟨5, _⟩ => ⟨S1024x2048, .f32⟩
  | .local _ .vmem, ⟨6, _⟩ => ⟨S4x1024x512, .fp8e4m3⟩
  | .local _ .vmem, ⟨7, _⟩ => ⟨S3x1024x512, .fp8e4m3⟩
  | .local _ .vmem, ⟨8, _⟩ => ⟨S8x128, .f32⟩
  | .local _ .vmem, ⟨9, _⟩ => ⟨S3x8x128, .f32⟩
  | _, _ => ⟨S1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  (ofTc nBuf bufTy 1 16 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_scratch6 : Ref sig .tc := ⟨.vmem, 8, rfl⟩
abbrev cc0_scratch7 : Ref sig .tc := ⟨.vmem, 9, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_19 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_10 : BitVec 32 := 1#32
  let v14 : BitVec 32 := Scalar.addi v2 c1_i32_10
  let c4_i32_11 : BitVec 32 := 4#32
  let c0_i32_12 : BitVec 32 := 0#32
  let v15 : BitVec 1 := Scalar.cmpi .eq c4_i32_11 c0_i32_12
  let c1_i32_13 : BitVec 32 := 1#32
  let v16 : BitVec 32 := Scalar.select v15 c1_i32_13 c4_i32_11
  let v17 : BitVec 32 := Scalar.remsi v14 v16
  let c0_i32_15 : BitVec 32 := 0#32
  let v19 : BitVec 1 := Scalar.cmpi .slt v17 c0_i32_15
  let c0_i32_16 : BitVec 32 := 0#32
  let v20 : BitVec 1 := Scalar.cmpi .slt v16 c0_i32_16
  let v21 : BitVec 1 := Scalar.xori v19 v20
  let c0_i32_14 : BitVec 32 := 0#32
  let v18 : BitVec 1 := Scalar.cmpi .ne v17 c0_i32_14
  let v22 : BitVec 1 := Scalar.andi v21 v18
  let v23 : BitVec 32 := Scalar.addi v17 v16
  let v24 : BitVec 32 := Scalar.select v22 v23 v17
  let c1_i32_18 : BitVec 32 := 1#32
  let v25 : BitVec 32 := Scalar.muli v24 c1_i32_18
  let v26 : BitVec 32 := Scalar.addi c0_i32_19 v25
  v26.toNat
def k0_dev2 (d0 : Dev nD) : Nat :=
  let c0_i32_28 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v27 : BitVec 32 := Scalar.addi v2 c2_i32
  let c4_i32_20 : BitVec 32 := 4#32
  let c0_i32_21 : BitVec 32 := 0#32
  let v28 : BitVec 1 := Scalar.cmpi .eq c4_i32_20 c0_i32_21
  let c1_i32_22 : BitVec 32 := 1#32
  let v29 : BitVec 32 := Scalar.select v28 c1_i32_22 c4_i32_20
  let v30 : BitVec 32 := Scalar.remsi v27 v29
  let c0_i32_24 : BitVec 32 := 0#32
  let v32 : BitVec 1 := Scalar.cmpi .slt v30 c0_i32_24
  let c0_i32_25 : BitVec 32 := 0#32
  let v33 : BitVec 1 := Scalar.cmpi .slt v29 c0_i32_25
  let v34 : BitVec 1 := Scalar.xori v32 v33
  let c0_i32_23 : BitVec 32 := 0#32
  let v31 : BitVec 1 := Scalar.cmpi .ne v30 c0_i32_23
  let v35 : BitVec 1 := Scalar.andi v34 v31
  let v36 : BitVec 32 := Scalar.addi v30 v29
  let v37 : BitVec 32 := Scalar.select v35 v36 v30
  let c1_i32_27 : BitVec 32 := 1#32
  let v38 : BitVec 32 := Scalar.muli v37 c1_i32_27
  let v39 : BitVec 32 := Scalar.addi c0_i32_28 v38
  v39.toNat
def k0_dev3 (d0 : Dev nD) : Nat :=
  let c0_i32_37 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v40 : BitVec 32 := Scalar.addi v2 c3_i32
  let c4_i32_29 : BitVec 32 := 4#32
  let c0_i32_30 : BitVec 32 := 0#32
  let v41 : BitVec 1 := Scalar.cmpi .eq c4_i32_29 c0_i32_30
  let c1_i32_31 : BitVec 32 := 1#32
  let v42 : BitVec 32 := Scalar.select v41 c1_i32_31 c4_i32_29
  let v43 : BitVec 32 := Scalar.remsi v40 v42
  let c0_i32_33 : BitVec 32 := 0#32
  let v45 : BitVec 1 := Scalar.cmpi .slt v43 c0_i32_33
  let c0_i32_34 : BitVec 32 := 0#32
  let v46 : BitVec 1 := Scalar.cmpi .slt v42 c0_i32_34
  let v47 : BitVec 1 := Scalar.xori v45 v46
  let c0_i32_32 : BitVec 32 := 0#32
  let v44 : BitVec 1 := Scalar.cmpi .ne v43 c0_i32_32
  let v48 : BitVec 1 := Scalar.andi v47 v44
  let v49 : BitVec 32 := Scalar.addi v43 v42
  let v50 : BitVec 32 := Scalar.select v48 v49 v43
  let c1_i32_36 : BitVec 32 := 1#32
  let v51 : BitVec 32 := Scalar.muli v50 c1_i32_36
  let v52 : BitVec 32 := Scalar.addi c0_i32_37 v51
  v52.toNat
def k0_dev4 (d0 : Dev nD) : Nat :=
  let c0_i32_245 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_234 : BitVec 32 := 1#32
  let v285 : BitVec 32 := Scalar.addi v2 c1_i32_234
  let c4_i32_235 : BitVec 32 := 4#32
  let c0_i32_236 : BitVec 32 := 0#32
  let v286 : BitVec 1 := Scalar.cmpi .eq c4_i32_235 c0_i32_236
  let c1_i32_237 : BitVec 32 := 1#32
  let v287 : BitVec 32 := Scalar.select v286 c1_i32_237 c4_i32_235
  let v288 : BitVec 32 := Scalar.remsi v285 v287
  let c0_i32_239 : BitVec 32 := 0#32
  let v290 : BitVec 1 := Scalar.cmpi .slt v288 c0_i32_239
  let c0_i32_240 : BitVec 32 := 0#32
  let v291 : BitVec 1 := Scalar.cmpi .slt v287 c0_i32_240
  let v292 : BitVec 1 := Scalar.xori v290 v291
  let c0_i32_238 : BitVec 32 := 0#32
  let v289 : BitVec 1 := Scalar.cmpi .ne v288 c0_i32_238
  let v293 : BitVec 1 := Scalar.andi v292 v289
  let v294 : BitVec 32 := Scalar.addi v288 v287
  let v295 : BitVec 32 := Scalar.select v293 v294 v288
  let c1_i32_244 : BitVec 32 := 1#32
  let v296 : BitVec 32 := Scalar.muli v295 c1_i32_244
  let v297 : BitVec 32 := Scalar.addi c0_i32_245 v296
  v297.toNat
def k0_dev5 (d0 : Dev nD) : Nat :=
  let c0_i32_259 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_248 : BitVec 32 := 2#32
  let v304 : BitVec 32 := Scalar.addi v2 c2_i32_248
  let c4_i32_249 : BitVec 32 := 4#32
  let c0_i32_250 : BitVec 32 := 0#32
  let v305 : BitVec 1 := Scalar.cmpi .eq c4_i32_249 c0_i32_250
  let c1_i32_251 : BitVec 32 := 1#32
  let v306 : BitVec 32 := Scalar.select v305 c1_i32_251 c4_i32_249
  let v307 : BitVec 32 := Scalar.remsi v304 v306
  let c0_i32_253 : BitVec 32 := 0#32
  let v309 : BitVec 1 := Scalar.cmpi .slt v307 c0_i32_253
  let c0_i32_254 : BitVec 32 := 0#32
  let v310 : BitVec 1 := Scalar.cmpi .slt v306 c0_i32_254
  let v311 : BitVec 1 := Scalar.xori v309 v310
  let c0_i32_252 : BitVec 32 := 0#32
  let v308 : BitVec 1 := Scalar.cmpi .ne v307 c0_i32_252
  let v312 : BitVec 1 := Scalar.andi v311 v308
  let v313 : BitVec 32 := Scalar.addi v307 v306
  let v314 : BitVec 32 := Scalar.select v312 v313 v307
  let c1_i32_258 : BitVec 32 := 1#32
  let v315 : BitVec 32 := Scalar.muli v314 c1_i32_258
  let v316 : BitVec 32 := Scalar.addi c0_i32_259 v315
  v316.toNat
def k0_dev6 (d0 : Dev nD) : Nat :=
  let c0_i32_273 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_262 : BitVec 32 := 3#32
  let v323 : BitVec 32 := Scalar.addi v2 c3_i32_262
  let c4_i32_263 : BitVec 32 := 4#32
  let c0_i32_264 : BitVec 32 := 0#32
  let v324 : BitVec 1 := Scalar.cmpi .eq c4_i32_263 c0_i32_264
  let c1_i32_265 : BitVec 32 := 1#32
  let v325 : BitVec 32 := Scalar.select v324 c1_i32_265 c4_i32_263
  let v326 : BitVec 32 := Scalar.remsi v323 v325
  let c0_i32_267 : BitVec 32 := 0#32
  let v328 : BitVec 1 := Scalar.cmpi .slt v326 c0_i32_267
  let c0_i32_268 : BitVec 32 := 0#32
  let v329 : BitVec 1 := Scalar.cmpi .slt v325 c0_i32_268
  let v330 : BitVec 1 := Scalar.xori v328 v329
  let c0_i32_266 : BitVec 32 := 0#32
  let v327 : BitVec 1 := Scalar.cmpi .ne v326 c0_i32_266
  let v331 : BitVec 1 := Scalar.andi v330 v327
  let v332 : BitVec 32 := Scalar.addi v326 v325
  let v333 : BitVec 32 := Scalar.select v331 v332 v326
  let c1_i32_272 : BitVec 32 := 1#32
  let v334 : BitVec 32 := Scalar.muli v333 c1_i32_272
  let v335 : BitVec 32 := Scalar.addi c0_i32_273 v334
  v335.toNat
def k0_off1 (d0 : Dev nD) (c1_i32_354 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v438 : BitVec 32 := Scalar.addi v2 c1_i32_354
  let c4_i32_355 : BitVec 32 := 4#32
  let c0_i32_356 : BitVec 32 := 0#32
  let v439 : BitVec 1 := Scalar.cmpi .eq c4_i32_355 c0_i32_356
  let c1_i32_357 : BitVec 32 := 1#32
  let v440 : BitVec 32 := Scalar.select v439 c1_i32_357 c4_i32_355
  let v441 : BitVec 32 := Scalar.remsi v438 v440
  let c0_i32_359 : BitVec 32 := 0#32
  let v443 : BitVec 1 := Scalar.cmpi .slt v441 c0_i32_359
  let c0_i32_360 : BitVec 32 := 0#32
  let v444 : BitVec 1 := Scalar.cmpi .slt v440 c0_i32_360
  let v445 : BitVec 1 := Scalar.xori v443 v444
  let c0_i32_358 : BitVec 32 := 0#32
  let v442 : BitVec 1 := Scalar.cmpi .ne v441 c0_i32_358
  let v446 : BitVec 1 := Scalar.andi v445 v442
  let v447 : BitVec 32 := Scalar.addi v441 v440
  let v448 : BitVec 32 := Scalar.select v446 v447 v441
  let c0_i32_368 : BitVec 32 := 0#32
  let c0_i32_369 : BitVec 32 := 0#32
  ![v448.toNat, 0, 0]
def k0_dev7 (d0 : Dev nD) : Nat :=
  let c0_i32_365 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_354 : BitVec 32 := 1#32
  let v438 : BitVec 32 := Scalar.addi v2 c1_i32_354
  let c4_i32_355 : BitVec 32 := 4#32
  let c0_i32_356 : BitVec 32 := 0#32
  let v439 : BitVec 1 := Scalar.cmpi .eq c4_i32_355 c0_i32_356
  let c1_i32_357 : BitVec 32 := 1#32
  let v440 : BitVec 32 := Scalar.select v439 c1_i32_357 c4_i32_355
  let v441 : BitVec 32 := Scalar.remsi v438 v440
  let c0_i32_359 : BitVec 32 := 0#32
  let v443 : BitVec 1 := Scalar.cmpi .slt v441 c0_i32_359
  let c0_i32_360 : BitVec 32 := 0#32
  let v444 : BitVec 1 := Scalar.cmpi .slt v440 c0_i32_360
  let v445 : BitVec 1 := Scalar.xori v443 v444
  let c0_i32_358 : BitVec 32 := 0#32
  let v442 : BitVec 1 := Scalar.cmpi .ne v441 c0_i32_358
  let v446 : BitVec 1 := Scalar.andi v445 v442
  let v447 : BitVec 32 := Scalar.addi v441 v440
  let v448 : BitVec 32 := Scalar.select v446 v447 v441
  let c1_i32_364 : BitVec 32 := 1#32
  let v449 : BitVec 32 := Scalar.muli v448 c1_i32_364
  let v450 : BitVec 32 := Scalar.addi c0_i32_365 v449
  v450.toNat
def k0_dev8 (d0 : Dev nD) : Nat :=
  let c0_i32_381 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_370 : BitVec 32 := 2#32
  let v459 : BitVec 32 := Scalar.addi v2 c2_i32_370
  let c4_i32_371 : BitVec 32 := 4#32
  let c0_i32_372 : BitVec 32 := 0#32
  let v460 : BitVec 1 := Scalar.cmpi .eq c4_i32_371 c0_i32_372
  let c1_i32_373 : BitVec 32 := 1#32
  let v461 : BitVec 32 := Scalar.select v460 c1_i32_373 c4_i32_371
  let v462 : BitVec 32 := Scalar.remsi v459 v461
  let c0_i32_375 : BitVec 32 := 0#32
  let v464 : BitVec 1 := Scalar.cmpi .slt v462 c0_i32_375
  let c0_i32_376 : BitVec 32 := 0#32
  let v465 : BitVec 1 := Scalar.cmpi .slt v461 c0_i32_376
  let v466 : BitVec 1 := Scalar.xori v464 v465
  let c0_i32_374 : BitVec 32 := 0#32
  let v463 : BitVec 1 := Scalar.cmpi .ne v462 c0_i32_374
  let v467 : BitVec 1 := Scalar.andi v466 v463
  let v468 : BitVec 32 := Scalar.addi v462 v461
  let v469 : BitVec 32 := Scalar.select v467 v468 v462
  let c1_i32_380 : BitVec 32 := 1#32
  let v470 : BitVec 32 := Scalar.muli v469 c1_i32_380
  let v471 : BitVec 32 := Scalar.addi c0_i32_381 v470
  v471.toNat
def k0_dev9 (d0 : Dev nD) : Nat :=
  let c0_i32_397 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_386 : BitVec 32 := 3#32
  let v480 : BitVec 32 := Scalar.addi v2 c3_i32_386
  let c4_i32_387 : BitVec 32 := 4#32
  let c0_i32_388 : BitVec 32 := 0#32
  let v481 : BitVec 1 := Scalar.cmpi .eq c4_i32_387 c0_i32_388
  let c1_i32_389 : BitVec 32 := 1#32
  let v482 : BitVec 32 := Scalar.select v481 c1_i32_389 c4_i32_387
  let v483 : BitVec 32 := Scalar.remsi v480 v482
  let c0_i32_391 : BitVec 32 := 0#32
  let v485 : BitVec 1 := Scalar.cmpi .slt v483 c0_i32_391
  let c0_i32_392 : BitVec 32 := 0#32
  let v486 : BitVec 1 := Scalar.cmpi .slt v482 c0_i32_392
  let v487 : BitVec 1 := Scalar.xori v485 v486
  let c0_i32_390 : BitVec 32 := 0#32
  let v484 : BitVec 1 := Scalar.cmpi .ne v483 c0_i32_390
  let v488 : BitVec 1 := Scalar.andi v487 v484
  let v489 : BitVec 32 := Scalar.addi v483 v482
  let v490 : BitVec 32 := Scalar.select v488 v489 v483
  let c1_i32_396 : BitVec 32 := 1#32
  let v491 : BitVec 32 := Scalar.muli v490 c1_i32_396
  let v492 : BitVec 32 := Scalar.addi c0_i32_397 v491
  v492.toNat
def k0_off2 (d0 : Dev nD) (c1_i32_427 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v527 : BitVec 32 := Scalar.subi v2 c1_i32_427
  let c4_i32_428 : BitVec 32 := 4#32
  let c0_i32_429 : BitVec 32 := 0#32
  let v528 : BitVec 1 := Scalar.cmpi .eq c4_i32_428 c0_i32_429
  let c1_i32_430 : BitVec 32 := 1#32
  let v529 : BitVec 32 := Scalar.select v528 c1_i32_430 c4_i32_428
  let v530 : BitVec 32 := Scalar.remsi v527 v529
  let c0_i32_432 : BitVec 32 := 0#32
  let v532 : BitVec 1 := Scalar.cmpi .slt v530 c0_i32_432
  let c0_i32_433 : BitVec 32 := 0#32
  let v533 : BitVec 1 := Scalar.cmpi .slt v529 c0_i32_433
  let v534 : BitVec 1 := Scalar.xori v532 v533
  let c0_i32_431 : BitVec 32 := 0#32
  let v531 : BitVec 1 := Scalar.cmpi .ne v530 c0_i32_431
  let v535 : BitVec 1 := Scalar.andi v534 v531
  let v536 : BitVec 32 := Scalar.addi v530 v529
  let v537 : BitVec 32 := Scalar.select v535 v536 v530
  let c1024_i32_437 : BitVec 32 := 1024#32
  let v543 : BitVec 32 := Scalar.muli v537 c1024_i32_437
  let v544 : Index := Scalar.indexCast v543
  let c0_438 : Index := 0#32
  ![v544.toNat, 0]
abbrev stage0_0 : Fin 1 → Memref sig .tc .vmem S1024x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S1x4096x2048 : Shape := ⟨3, ![1, 4096, 2048]⟩
abbrev S1 : Shape := ⟨1, ![1]⟩
abbrev S1x1x1 : Shape := ⟨3, ![1, 1, 1]⟩

abbrev nBuf : Space → Nat
  | .hbm => 3
  | .vmem => 3
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S4096x2048, .f32⟩
  | .local _ .vmem, ⟨0, _⟩ => ⟨S4096x4096, .f32⟩
  | .local _ .vmem, ⟨1, _⟩ => ⟨S4096x2048, .f32⟩
  | .local _ .vmem, ⟨2, _⟩ => ⟨S4096x2048, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S4096x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.Own.lean ====
/- The steps of a kernel over buffers held BY VALUES (`owns`): a load continues with the values of its
   rectangle, a store lays its payload over them, a copy moves them, a squeezed view reads them reshaped. -/
module

public import Idealize.ShloMosaic.Lib.Pipeline.Kit
public import Idealize.ShloMosaic.Lib.Rounds
public import Idealize.ShloMosaic.Lib.Transfers
public import Idealize.ShloMosaic.Lib.Tactic

@[expose] public section

noncomputable section

namespace Cert.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type}
variable {Ix : Type} [DecidableEq Ix] {Name : Type} [DecidableEq Name] {U : Type} [URA U] {Lvl : Type}

local notation "𝕄" => MT nD τ sig Ix Val Name U Lvl

/-- What holding by values is: some contents of the buffer that read so. -/
theorem owns_elim (c : Thread nD τ) {sp : Space} {s : Shape} {e : EltTy} (m : Memref sig c.2.kind sp s e) (q : PosShare TreeShare)
    (X : s.Idx → Val e) :
    (owns c m q X : sProp 𝕄) ⊢ iprop(∃ f, ⌜m.view.read Val f = X⌝ ∗ m.view.loc c ↦[m.view.set]{q} f) := by
  unfold owns; exact .rfl

section Rules
variable [Preorder Lvl] {Λ : Labels} {defs : Defs nD τ sig Val Λ} (𝒱 : Variants) (c : Thread nD τ)
variable {α : Type} {Q : α → sProp (MT nD τ sig Ix Val Name U Lvl)} {s : Shape} {e : EltTy}

/-- A load through a rectangle of a buffer held at `X`: the values of the rectangle. -/
theorem wp_load {cs : CoreSpace} {m : Memref sig c.2.kind cs s e} {r : Rect s} {hl : m.view.LoadsAt r.toLoadRect}
    {k : (r.shape.Idx → Val e) → Prog (TpuEff nD τ sig Val Λ c.2) α} {q : PosShare TreeShare} {X : s.Idx → Val e} :
    (owns c m q X : sProp 𝕄)
      ⊢ iprop((owns c m q X -∗ wp frame (wpE defs 𝒱 c none) Set.univ (k (fun y => X (r.emb y))) Q)
          -∗ wp frame (wpE defs 𝒱 c none) Set.univ (.op (.load m r.toLoadRect hl) k) Q) := by
  unfold owns
  iintro ⟨%f, %hf, H⟩ Hk
  iapply (Idealize.ShloMosaic.wp_load 𝒱 c none Set.univ (m := m) (S := m.view.set) (View.setOn_subset_set _ _)) $$ H
  iintro H
  subst hf
  iapply Hk
  iexists f
  isplitr; · ipureintro; rfl
  iexact H

/-- The same of a buffer of which only the rectangle's own elements are held. -/
theorem wp_load_slice {cs : CoreSpace} {m : Memref sig c.2.kind cs s e} {r : Rect s} {hr : ∀ a, r.stride a = 1}
    {hl : m.view.LoadsAt r.toLoadRect}
    {k : (r.shape.Idx → Val e) → Prog (TpuEff nD τ sig Val Λ c.2) α} {q : PosShare TreeShare} {X : r.shape.Idx → Val e} :
    (owns c (m.slice r hr) q X : sProp 𝕄)
      ⊢ iprop((owns c (m.slice r hr) q X -∗ wp frame (wpE defs 𝒱 c none) Set.univ (k X) Q)
          -∗ wp frame (wpE defs 𝒱 c none) Set.univ (.op (.load m r.toLoadRect hl) k) Q) := by
  unfold owns
  iintro ⟨%f, %hf, H⟩ Hk
  iapply (wp_load_rect 𝒱 c none Set.univ (m := m) (r := r) (S := (m.slice r hr).view.set) (f := f) (Finset.Subset.refl _)) $$ H
  iintro H
  subst hf
  iapply Hk
  iexists f
  isplitr; · ipureintro; rfl
  iexact H

/-- A store through a rectangle of a buffer held at `X` lays the payload over it. -/
theorem wp_store {cs : CoreSpace} {m : Memref sig c.2.kind cs s e} {r : Rect s} {w : r.shape.Idx → Val e}
    {hx : (m.access r).Stores Finset.univ} {hm : (Finset.univ : Finset r.shape.Idx) = Finset.univ ∨ ∀ a, r.stride a = 1}
    {k : PUnit → Prog (TpuEff nD τ sig Val Λ c.2) α} {X : s.Idx → Val e} :
    (owns c m fullShare X : sProp 𝕄)
      ⊢ iprop((owns c m fullShare (r.overlay X w) -∗ wp frame (wpE defs 𝒱 c none) Set.univ (k ⟨⟩) Q)
          -∗ wp frame (wpE defs 𝒱 c none) Set.univ (.op (.store m r w Finset.univ hx hm) k) Q) := by
  unfold owns
  iintro ⟨%f, %hf, H⟩ Hk
  iapply (Idealize.ShloMosaic.wp_store 𝒱 c none Set.univ (m := m) (r := r) (S := m.view.set) (f := f) (View.set_slice_subset _ _)) $$ H
  iintro H
  subst hf
  iapply Hk
  iexists _
  isplitr
  rotate_left
  · iexact H
  ipureintro
  funext j
  by_cases hj : j ∈ r.set
  · obtain ⟨i, rfl⟩ := r.exists_idx_of_mem hj
    change m.view.read Val _ (r.emb i) = r.overlay _ w (r.emb i)
    rw [Rect.overlay_emb]
    exact congrFun (View.read_write_univ (v := m.access r) f w) i
  · rw [Rect.overlay_of_not_mem _ _ _ hj, View.read_apply, View.read_apply, View.write_of_not_mem]
    show m.view.emb j ∉ (m.view.slice r).set
    rw [View.set_slice, Finset.mem_map' m.view.emb]; exact hj

/-- A store over a rectangle of which all the elements are held leaves the payload there. -/
theorem wp_store_slice {cs : CoreSpace} {m : Memref sig c.2.kind cs s e} {r : Rect s} {hr : ∀ a, r.stride a = 1} {w : r.shape.Idx → Val e}
    {hx : (m.access r).Stores Finset.univ} {hm : (Finset.univ : Finset r.shape.Idx) = Finset.univ ∨ ∀ a, r.stride a = 1}
    {k : PUnit → Prog (TpuEff nD τ sig Val Λ c.2) α} {X : r.shape.Idx → Val e} :
    (owns c (m.slice r hr) fullShare X : sProp 𝕄)
      ⊢ iprop((owns c (m.slice r hr) fullShare w -∗ wp frame (wpE defs 𝒱 c none) Set.univ (k ⟨⟩) Q)
          -∗ wp frame (wpE defs 𝒱 c none) Set.univ (.op (.store m r w Finset.univ hx hm) k) Q) := by
  unfold owns
  iintro ⟨%f, %hf, H⟩ Hk
  iapply (Idealize.ShloMosaic.wp_store 𝒱 c none Set.univ (m := m) (r := r) (S := (m.slice r hr).view.set) (f := f) (Finset.Subset.refl _)) $$ H
  iintro H
  iapply Hk
  iexists _
  isplitr
  rotate_left
  · iexact H
  ipureintro
  exact View.read_write_univ (v := m.access r) f w

/-- A load of a whole buffer continues with its values. -/
theorem wp_load_all {cs : CoreSpace} {m : Memref sig c.2.kind cs s e} {off : Fin s.rank → ℕ} {hi : ∀ a, off a + s.size a ≤ s.size a}
    (h0 : off = fun _ => 0) {hl : m.view.LoadsAt (Rect.unit off s.size hi).toLoadRect}
    {k : (s.Idx → Val e) → Prog (TpuEff nD τ sig Val Λ c.2) α} {q : PosShare TreeShare} {X : s.Idx → Val e} :
    (owns c m q X : sProp 𝕄)
      ⊢ iprop((owns c m q X -∗ wp frame (wpE defs 𝒱 c none) Set.univ (k X) Q)
          -∗ wp frame (wpE defs 𝒱 c none) Set.univ (.op (.load m (Rect.unit off s.size hi).toLoadRect hl) k) Q) := by
  have he : (fun y : s.Idx => X ((Rect.unit off s.size hi).emb y)) = X := by
    funext y; congr 1; funext a; apply Fin.ext
    subst h0; show 0 + 1 * (y a).val = (y a).val; omega
  iintro H Hk
  iapply (wp_load 𝒱 c (r := Rect.unit off s.size hi) (k := k)) $$ H
  iintro H
  ihave H := Hk $$ H
  ihave H := (Entails.of_eq (congrArg (fun Y => wp frame (wpE defs 𝒱 c none) Set.univ (k Y) Q) he.symm)) $$ H
  iexact H

/-- A store over a whole buffer leaves the payload there. -/
theorem wp_store_all {cs : CoreSpace} {m : Memref sig c.2.kind cs s e} {off : Fin s.rank → ℕ} {hi : ∀ a, off a + s.size a ≤ s.size a}
    (h0 : off = fun _ => 0) {w : s.Idx → Val e}
    {hx : (m.access (Rect.unit off s.size hi)).Stores Finset.univ}
    {hm : (Finset.univ : Finset (Rect.unit off s.size hi).shape.Idx) = Finset.univ ∨ ∀ a, (Rect.unit off s.size hi).stride a = 1}
    {k : PUnit → Prog (TpuEff nD τ sig Val Λ c.2) α} {X : s.Idx → Val e} :
    (owns c m fullShare X : sProp 𝕄)
      ⊢ iprop((owns c m fullShare w -∗ wp frame (wpE defs 𝒱 c none) Set.univ (k ⟨⟩) Q)
          -∗ wp frame (wpE defs 𝒱 c none) Set.univ (.op (.store m (Rect.unit off s.size hi) w Finset.univ hx hm) k) Q) := by
  have he : (Rect.unit off s.size hi).overlay X w = w := by
    funext y
    have : (Rect.unit off s.size hi).emb y = y := by
      funext a; apply Fin.ext
      subst h0; show 0 + 1 * (y a).val = (y a).val; omega
    conv_lhs => rw [← this]
    exact Rect.overlay_emb _ _ _ _
  have h := wp_store 𝒱 c (defs := defs) (Q := Q) (m := m) (r := Rect.unit off s.size hi) (w := w) (hx := hx) (hm := hm) (k := k) (X := X)
  rw [he] at h
  exact h

end Rules

/-! ## Squeezed views -/

/-- A squeezed memref reads what the memref reads, reshaped. -/
theorem owns_squeeze (c : Thread nD τ) {sp : Space} {s s' : Shape} {e : EltTy} (m : Memref sig c.2.kind sp s e) (q : PosShare TreeShare)
    (h : s.Squeezes s') (X : s.Idx → Val e) :
    (owns c m q X : sProp 𝕄) = owns c (m.squeeze s' h) q (fun i => X (Shape.reshapeEquiv h.numel_eq i)) := by
  have hset : (m.squeeze s' h).view.set = m.view.set := View.set_reshape _ _
  have hread (f : m.view.ty.Contents Val) : (m.squeeze s' h).view.read Val f = fun i => m.view.read Val f (Shape.reshapeEquiv h.numel_eq i) := rfl
  have h₁ : (owns c m q X : sProp 𝕄) ⊢ owns c (m.squeeze s' h) q (fun i => X (Shape.reshapeEquiv h.numel_eq i)) := by
    unfold owns
    iintro ⟨%f, %hf, H⟩
    iexists f
    isplitr; · ipureintro; rw [hread, hf]
    rw [hset]; iexact H
  have h₂ : (owns c (m.squeeze s' h) q (fun i => X (Shape.reshapeEquiv h.numel_eq i)) : sProp 𝕄) ⊢ owns c m q X := by
    unfold owns
    iintro ⟨%f, %hf, H⟩
    iexists f
    isplitr
    · ipureintro
      rw [hread] at hf
      funext x
      have := congrFun hf ((Shape.reshapeEquiv h.numel_eq).symm x)
      simpa only [Equiv.apply_symm_apply] using this
    · ihave H := (Entails.of_eq (congrArg (fun S => (m.view.loc c ↦[S]{q} f : sProp 𝕄)) hset)) $$ H
      iexact H
  exact BI.equiv_iff.mp ⟨h₁, h₂⟩

/-- The values of a view as those of the view it was squeezed from. -/
def unsq {s s' : Shape} {β : Type} (h : s.Squeezes s') (X : s'.Idx → β) : s.Idx → β :=
  fun j => X ((Shape.reshapeEquiv h.numel_eq).symm j)

theorem owns_unsq (c : Thread nD τ) {sp : Space} {s s' : Shape} {e : EltTy} (m : Memref sig c.2.kind sp s e) (q : PosShare TreeShare)
    (h : s.Squeezes s') (X : s'.Idx → Val e) :
    (owns c (m.squeeze s' h) q X : sProp 𝕄) = owns c m q (unsq h X) := by
  rw [owns_squeeze c m q h]
  unfold unsq
  simp only [Equiv.symm_apply_apply]

/-- Equal offsets name the same slice. -/
theorem owns_off (c : Thread nD τ) {sp : Space} {s : Shape} {e : EltTy} (m : Memref sig c.2.kind sp s e) (q : PosShare TreeShare)
    {off off' size : Fin s.rank → ℕ} (h : off = off') (hi : ∀ a, off a + size a ≤ s.size a) (hi' : ∀ a, off' a + size a ≤ s.size a)
    (hr : ∀ a, (Rect.unit off size hi).stride a = 1) (hr' : ∀ a, (Rect.unit off' size hi').stride a = 1)
    (X : (⟨s.rank, size⟩ : Shape).Idx → Val e) :
    (owns c (m.slice (Rect.unit off size hi) hr) q X : sProp 𝕄) = owns c (m.slice (Rect.unit off' size hi') hr') q X := by
  subst h; rfl

/-! ## Local copies -/

section Local
variable [Preorder Lvl] {Λ : Labels} {defs : Defs nD τ sig Val Λ} (𝒱 : Variants) (c : Thread nD τ)
variable {α : Type} {Q : α → sProp (MT nD τ sig Ix Val Name U Lvl)} {sp sp' : Space} {s : Shape} {e : EltTy}
variable (EC : UEmb Counters (MT nD τ sig Ix Val Name U Lvl))

/-- A copy between two views of the core's own, on a semaphore at zero: in flight it delivers the destination at the
    source's values, and the source back. -/
theorem wp_copy [Infinite Name] [EC.LandsIn (upEmb : UEmb _ 𝕄)]
    {src : Memref sig c.2.kind sp s e} {dst : Memref sig c.2.kind sp' s e} {sm : SemLoc sig}
    {hsrc : src.view.WordExact} {hdst : dst.view.WordExact} {hsem : DmaTarget.Typed (nD := nD) sp sm (.here dst)}
    {k : PUnit → Prog (TpuEff nD τ sig Val Λ c.2) α} {q : PosShare TreeShare} {X Y : s.Idx → Val e}
    (ι : Ix) (N : ℕ) (hN : dst.view.amount sm = N) (hN0 : 0 < N) :
    iprop(owns c src q X ∗ owns c dst fullShare Y ∗ semVal (c, sm) 0)
      ⊢ iprop((Transfers.Flight EC c sm ι N iprop(owns c dst fullShare X ∗ owns c src q X)
              -∗ wp frame (wpE defs 𝒱 c none) Set.univ (k ⟨⟩) Q)
          -∗ wp frame (wpE defs 𝒱 c none) Set.univ (.op (.enqueueDma src (.here dst) sm hsrc hdst hsem) k) Q) := by
  unfold owns
  iintro ⟨⟨%f, %hf, Hs⟩, ⟨%g, %hg, Hd⟩, Hv⟩ Hk
  iapply (Transfers.wp_dmaLocal EC 𝒱 c none (via := .same) (q := q) (fs := f) (fd := g) (Sd := dst.view.set) ι N hN hN0 (Finset.Subset.refl _)) $$ [Hs Hd Hv]
  · isplitl [Hs]; · iexact Hs
    isplitl [Hd]; · iexact Hd
    iexact Hv
  iintro HF
  iapply Hk
  iapply (Transfers.Flight_mono EC c (D := iprop((dst.view.loc c ↦[dst.view.set]{fullShare} (dst.view.write Val g (src.view.read Val f) Finset.univ))
      ∗ (src.view.loc c ↦[src.view.set]{q} f))) ?_) $$ HF
  iintro ⟨Hd, Hs⟩
  isplitl [Hd]
  · iexists _
    isplitr
    rotate_left
    · iexact Hd
    ipureintro
    rw [View.read_write_univ, hf]
  · iexists f
    isplitr; · ipureintro; exact hf
    iexact Hs

end Local

/-! ## Copies to another device -/

section Remote
variable [Preorder Lvl] {Λ : Labels} {defs : Defs nD τ sig Val Λ} (𝒱 : Variants) (c : Thread nD τ)
variable {α : Type} {Q : α → sProp (MT nD τ sig Ix Val Name U Lvl)} {sp sp' : Space} {s : Shape} {e : EltTy}
variable {D : Type} [DecidableEq D] (E : Emb (Rounds.URounds (GSem nD τ sig) D) (MT nD τ sig Ix Val Name U Lvl)) [E.LandsIn (upEmb : UEmb _ (MT nD τ sig Ix Val Name U Lvl))] (Rd : Rounds.Schedule (GSem nD τ sig) D (MT nD τ sig Ix Val Name U Lvl))
  [∀ g r d, BI.Storable (upEmb : UEmb _ (MT nD τ sig Ix Val Name U Lvl)) (Rd.payload g r d)]

/-- A copy to device `c'`: the source, at its values, becomes the payload of the sender's own cell, the destination at
    those values the payload of the receiver's cell. -/
theorem wp_send [Infinite Name] {c' : Thread nD τ} {src : Memref sig c.2.kind sp s e} {dst : Memref sig c'.2.kind sp' s e}
    {hsc : dst.view.ref.isScScratch = false} {sS sem : SemLoc sig}
    {hsrc : src.view.WordExact} {hdst : dst.view.WordExact} {hsem : DmaTarget.Typed sp sem (.remote c' dst sS hsc)}
    {k : PUnit → Prog (TpuEff nD τ sig Val Λ c.2) α} {q : PosShare TreeShare} {X Y : s.Idx → Val e} {r₁ r₂ : ℕ} {d₁ d₂ : D} {κ₁ κ₂ : Name}
    (hd₁ : d₁ ∈ Rd.duties (c, sS) r₁) (hd₂ : d₂ ∈ Rd.duties (c', sem) r₂)
    (ι ι' : Ix) (N : ℕ) (hN : dst.view.amount sem = N)
    (hk₁ : Rd.amount (c, sS) r₁ d₁ = N) (hk₂ : Rd.amount (c', sem) r₂ d₂ = N)
    {O₀ : CellTallies nD τ sig Ix} (O : CellTallies nD τ sig Ix) (hO : O₀ = O + tallyAt (c', sem) ι N) {W : Waits sig Ix}
    (hpay₁ : (owns c src q X : sProp (MT nD τ sig Ix Val Name U Lvl)) ⊢ Rd.payload (c, sS) r₁ d₁)
    (hpay₂ : (owns c' dst fullShare X : sProp (MT nD τ sig Ix Val Name U Lvl)) ⊢ Rd.payload (c', sem) r₂ d₂) (hr : τ.routes c c' = true := by routes) :
    iprop(Rounds.cellInv E Rd κ₁ (c, sS) ∗ Rounds.cellInv E Rd κ₂ (c', sem)
        ∗ owns c src q X ∗ owns c' dst fullShare Y ∗ owes c O₀ W
        ∗ Rounds.dutyTok E (c, sS) r₁ d₁ ∗ Rounds.reached E (c, sS) r₁
        ∗ Rounds.dutyTok E (c', sem) r₂ d₂ ∗ Rounds.reached E (c', sem) r₂)
      ⊢ iprop(((cred (tallyAt (c, sS) ι' N) ∗ owes c O W) -∗ wp frame (wpE defs 𝒱 c none) Set.univ (k ⟨⟩) Q)
          -∗ wp frame (wpE defs 𝒱 c none) Set.univ (.op (.enqueueDma src (.remote c' dst sS hsc) sem hsrc hdst hsem) k) Q) := by
  iintro ⟨H1, H2, Hs, Hd, HO, H3, H4, H5, H6⟩
  ihave Hs := (owns_elim c src q X) $$ Hs
  icases Hs with ⟨%f, %hf, Hs⟩
  ihave Hd := (owns_elim c' dst fullShare Y) $$ Hd
  icases Hd with ⟨%g, %hg, Hd⟩
  subst hf
  have hd := owns_intro (Ix := Ix) (Name := Name) (U := U) (Lvl := Lvl) c' dst fullShare (dst.view.write Val g (src.view.read Val f) Finset.univ)
  rw [View.read_write_univ] at hd
  iapply (Rounds.wp_send_pointsTo 𝒱 E Rd c none hd₁ hd₂ ι ι' N hN hk₁ hk₂ O hO (fs := f) (fd := g) (q := q)
    ((owns_intro c src q f).trans hpay₁)
    (hd.trans hpay₂) (hr := hr)) $$ [H1 H2 Hs Hd HO H3 H4 H5 H6]
  isplitl [H1]; · iexact H1
  isplitl [H2]; · iexact H2
  isplitl [Hs]; · iexact Hs
  isplitl [Hd]; · iexact Hd
  isplitl [HO]; · iexact HO
  isplitl [H3]; · iexact H3
  isplitl [H4]; · iexact H4
  isplitl [H5]; · iexact H5
  iexact H6

end Remote

end Cert.Own

end
-- ==== Proof.Pieces.lean ====
/- Buffers held by values, cut into the rectangles of a family and put together again. -/
module

public import proofs.«01_k».proof.Proof.Own
public import Idealize.ShloMosaic.Lib.Memref
public import Idealize.ShloMosaic.Lib.Ring.WriteBehind

@[expose] public section

noncomputable section

namespace Cert.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

/-- Unit rectangles laid one after the other along axis `a`, whole along the others: pairwise disjoint, and together
    everything. -/
theorem bands {s : Shape} {N : ℕ} (a : Fin s.rank) (n : ℕ) (off : Fin N → Fin s.rank → ℕ) (size : Fin s.rank → ℕ)
    (inb : ∀ t, ∀ b, off t b + size b ≤ s.size b) (ha : ∀ t, off t a = n * t.val) (hn : size a = n) (hN : s.size a = n * N)
    (ho : ∀ t b, b ≠ a → off t b = 0) (hs : ∀ b, b ≠ a → size b = s.size b) :
    (∀ t t', t ≠ t' → Disjoint (Rect.unit (off t) size (inb t)).set (Rect.unit (off t') size (inb t')).set)
      ∧ (Finset.univ : Finset (Fin N)).biUnion (fun t => (Rect.unit (off t) size (inb t)).set) = Finset.univ := by
  constructor
  · intro t t' h
    apply Rect.unit_disjoint a
    rw [ha, ha, hn]
    have h' : t.val ≠ t'.val := fun e => h (Fin.ext e)
    rcases Nat.lt_or_gt_of_ne h' with h | h
    · left; exact (Nat.mul_succ n t.val).symm.le.trans (Nat.mul_le_mul_left n h)
    · right; exact (Nat.mul_succ n t'.val).symm.le.trans (Nat.mul_le_mul_left n h)
  · ext i
    refine ⟨fun _ => Finset.mem_univ _, fun _ => ?_⟩
    have hi : (i a).val < n * N := hN ▸ (i a).isLt
    have hn0 : 0 < n := Nat.pos_of_ne_zero fun h => by rw [h, Nat.zero_mul] at hi; exact Nat.not_lt_zero _ hi
    refine Finset.mem_biUnion.mpr ⟨⟨(i a).val / n, Nat.div_lt_of_lt_mul hi⟩, Finset.mem_univ _, ?_⟩
    rw [Rect.mem_set_unit]
    intro b
    by_cases hb : b = a
    · subst hb
      rw [ha, hn]
      have h1 := Nat.div_add_mod (i b).val n
      have h2 := Nat.mod_lt (i b).val hn0
      dsimp only
      constructor <;> omega
    · rw [ho _ b hb, hs b hb]
      exact ⟨Nat.zero_le _, by rw [Nat.zero_add]; exact (i b).isLt⟩

variable {nD : Nat} {τ : Topo} {sig : RefSig} {Val : EltTy → Type}
variable {Ix : Type} [DecidableEq Ix] {Name : Type} [DecidableEq Name] {U : Type} [URA U] {Lvl : Type}

local notation "𝕄" => MT nD τ sig Ix Val Name U Lvl

section Pieces
variable {T : Type} [Fintype T] [DecidableEq T] {sp : Space} {s : Shape} {e : EltTy}
variable (c : Thread nD τ) (m : Memref sig c.2.kind sp s e) (q : PosShare TreeShare) (r : T → Rect s) (hr : ∀ t a, (r t).stride a = 1)
variable (h : (∀ t t', t ≠ t' → Disjoint (r t).set (r t').set) ∧ (Finset.univ : Finset T).biUnion (fun t => (r t).set) = Finset.univ)
include h

theorem split_at (X : s.Idx → Val e) :
    (owns c m q X : sProp 𝕄) ⊢ bigSep Finset.univ fun t => owns c (m.slice (r t) (hr t)) q (fun j => X ((r t).emb j)) :=
  owns_rects c m q r hr h.1 h.2 X

theorem join_at [∀ e, Nonempty (Val e)] (X : s.Idx → Val e) :
    bigSep Finset.univ (fun t => owns c (m.slice (r t) (hr t)) q (fun j => X ((r t).emb j))) ⊢ (owns c m q X : sProp 𝕄) :=
  owns_of_rects c m q r hr h.1 h.2 X

theorem split_some :
    (iprop(∃ Z, owns c m q Z) : sProp 𝕄) ⊢ bigSep Finset.univ fun t => iprop(∃ Z, owns c (m.slice (r t) (hr t)) q Z) := by
  have hk (Z : s.Idx → Val e) : (owns c m q Z : sProp 𝕄) ⊢ bigSep Finset.univ fun t => iprop(∃ Z, owns c (m.slice (r t) (hr t)) q Z) :=
    (split_at c m q r hr h Z).trans (bigSep_mono fun t _ => by
      show (owns c (m.slice (r t) (hr t)) q (fun j => Z ((r t).emb j)) : sProp 𝕄) ⊢ iprop(∃ Z, owns c (m.slice (r t) (hr t)) q Z)
      iintro H; iexists _; iexact H)
  iintro ⟨%Z, H⟩
  iapply (hk Z)
  iexact H

theorem join_some [∀ e, Nonempty (Val e)] :
    bigSep Finset.univ (fun t => iprop(∃ Z, owns c (m.slice (r t) (hr t)) q Z)) ⊢ (iprop(∃ Z, owns c m q Z) : sProp 𝕄) := by
  classical
  have hj (y : (t : T) → (r t).shape.Idx → Val e) :
      bigSep Finset.univ (fun t => owns c (m.slice (r t) (hr t)) q (y t)) ⊢ (iprop(∃ Z, owns c m q Z) : sProp 𝕄) := by
    have hm (t : T) (j : (r t).shape.Idx) : (r t).emb j ∈ (r t).set := (r t).map_emb_univ ▸ Finset.mem_map_of_mem _ (Finset.mem_univ j)
    let X : s.Idx → Val e := fun i => if hx : ∃ t, ∃ j, (r t).emb j = i then y hx.choose hx.choose_spec.choose else Classical.arbitrary _
    have hX (t : T) : (fun j => X ((r t).emb j)) = y t := by
      funext j
      have hx : ∃ t', ∃ j', (r t').emb j' = (r t).emb j := ⟨t, j, rfl⟩
      show dite _ _ _ = _
      rw [dif_pos hx]
      have hs := hx.choose_spec.choose_spec
      have ht : hx.choose = t := by
        by_contra hne
        refine Finset.disjoint_left.mp (h.1 _ _ hne) ?_ (hm t j)
        exact (congrArg (· ∈ (r hx.choose).set) hs).mp (hm _ _)
      generalize hx.choose_spec.choose = j' at hs ⊢
      generalize hx.choose = t' at ht j' hs ⊢
      subst ht
      rw [(r t').emb.injective hs]
    have := join_at (Ix := Ix) (Name := Name) (U := U) (Lvl := Lvl) c m q r hr h X
    simp only [hX] at this
    exact this.trans (by iintro H; iexists _; iexact H)
  iintro H
  ihave H := (BI.bigSep_exists_pi Finset.univ (fun t Z => owns c (m.slice (r t) (hr t)) q Z)) $$ H
  icases H with ⟨%y, H⟩
  iapply (hj y)
  iexact H

end Pieces

end Cert.Own

end
-- ==== Proof.KernelIdeal.Spec.lean ====
/- What each buffer of the kernel comes to hold, as a function of the devices' operands. -/
module

public import proofs.«01_k».proof.Proof.Own
public import proofs.«01_k».proof.Proof.Gen.KernelIdeal.Skeleton
public import Idealize.ShloMosaic.Lib.ValueIdxCore

@[expose] public section

noncomputable section

namespace Cert.KernelIdeal.Prf

open Cert.KernelIdeal Cert.KernelIdeal.Gen Cert.Own
open Idealize.ShloMosaic Idealize.ShloMosaic.TcCoe Idealize.ShloMosaic.ValueIdx

variable {F : FTy → Type} [FloatOps F]

/-! ## The mesh -/

/-- The device `k + 1` places after `c`. -/
def tgt (k : Fin 3) (c : Dev nD) : Dev nD := ⟨(c.val + k.val + 1) % 4, Nat.mod_lt _ (by decide)⟩
/-- The device `k + 1` places before `c`. -/
def src (k : Fin 3) (c : Dev nD) : Dev nD := ⟨(c.val + 3 - k.val) % 4, Nat.mod_lt _ (by decide)⟩

theorem src_tgt (k : Fin 3) (c : Dev nD) : src k (tgt k c) = c := by revert k c; decide
theorem tgt_src (k : Fin 3) (c : Dev nD) : tgt k (src k c) = c := by revert k c; decide
theorem tgt_rev (k : Fin 3) (c : Dev nD) : tgt (Fin.rev k) (tgt k c) = c := by revert k c; decide
theorem src_rev (k : Fin 3) (c : Dev nD) : src k c = tgt (Fin.rev k) c := by revert k c; decide

/-! ## The rectangles -/

/-- Columns `256 b` and on of the weights. -/
abbrev wR (b : Fin 8) : Rect S4096x2048 := Rect.unit ![0, 256 * b.val] S4096x256.size
  (fun a => by have := b.isLt; fin_cases a <;> simp <;> omega)
/-- Columns `256 b` and on of the product. -/
abbrev yR (b : Fin 8) : Rect S1024x2048 := Rect.unit ![0, 256 * b.val] S1024x256.size
  (fun a => by have := b.isLt; fin_cases a <;> simp <;> omega)
/-- Columns `512 j` and on of the product. -/
abbrev y4R (j : Fin 4) : Rect S1024x2048 := Rect.unit ![0, 512 * j.val] S1024x512.size
  (fun a => by have := j.isLt; fin_cases a <;> simp <;> omega)
/-- Rows `1024 j` and on of the result. -/
abbrev oR (j : Fin 4) : Rect S4096x512 := Rect.unit ![1024 * j.val, 0] S1024x512.size
  (fun a => by have := j.isLt; fin_cases a <;> simp <;> omega)
/-- The slots of the two-slot weight buffers, -/
abbrev slR (j : Fin 2) : Rect S2x4096x256 := Rect.unit ![j.val, 0, 0] S1x4096x256.size
  (fun a => by have := j.isLt; fin_cases a <;> simp <;> omega)
/-- of the quantized chunks, -/
abbrev qR (j : Fin 4) : Rect S4x1024x512 := Rect.unit ![j.val, 0, 0] S1x1024x512.size
  (fun a => by have := j.isLt; fin_cases a <;> simp <;> omega)
/-- of the received chunks, -/
abbrev qiR (j : Fin 3) : Rect S3x1024x512 := Rect.unit ![j.val, 0, 0] S1x1024x512.size
  (fun a => by have := j.isLt; fin_cases a <;> simp <;> omega)
/-- and of the received maxima. -/
abbrev arR (j : Fin 3) : Rect S3x8x128 := Rect.unit ![j.val, 0, 0] S1x8x128.size
  (fun a => by have := j.isLt; fin_cases a <;> simp <;> omega)

/-! ## One device's product and its maximum -/

section Local
variable (X : S1024x4096.Idx → Elt F .f32) (W : S4096x2048.Idx → Elt F .f32)

/-- Columns `256 b` and on of the weights. -/
def wblk (b : Fin 8) : S4096x256.Idx → Elt F .f32 := fun i => W ((wR b).emb i)
/-- The same in a slot of the weight buffer, -/
def wslot (b : Fin 8) : S1x4096x256.Idx → Elt F .f32 := unsq squeezes_S1x4096x256_S4096x256 (wblk W b)
/-- and rounded, as the product reads it. -/
def wbf (b : Fin 8) : S1x4096x256.Idx → Elt F .bf16 := k0_pay2 (wslot W b)
def xbf : S1024x4096.Idx → Elt F .bf16 := k0_pay1 X
/-- Columns `256 b` and on of the product. -/
def yblk (b : Fin 8) : S1024x256.Idx → Elt F .f32 := k0_pay4 (xbf X) (wbf W b)
/-- The product. -/
def yv : S1024x2048.Idx → Elt F .f32 := fun i =>
  yblk X W ⟨(i 1).val / 256, Nat.div_lt_of_lt_mul (i 1).isLt⟩ (ix2 (n0 := 1024) (n1 := 256) (i 0) ⟨(i 1).val % 256, Nat.mod_lt _ (by decide)⟩)
/-- Its chunk for device `j`. -/
def ych (j : Fin 4) : S1024x512.Idx → Elt F .f32 := fun y => yv X W ((y4R j).emb y)

/-- The running maximum after block `n`. -/
def am : ℕ → F .f32
  | 0 => k0_pay5 (xbf X) (wbf W 0)
  | n + 1 => k0_pay9 (am n) (xbf X) (wbf W (Fin.ofNat 8 (n + 1)))
/-- The device's maximum, as it is sent, -/
def amb : S8x128.Idx → Elt F .f32 := k0_pay35 (am X W 6) (xbf X) (wbf W 7)
/-- and in a slot of the receivers' buffers. -/
def ambs : S1x8x128.Idx → Elt F .f32 := unsq squeezes_S1x8x128_S8x128 (amb X W)

end Local

/-! ## What crosses devices -/

variable (X : Dev nD → S1024x4096.Idx → Elt F .f32) (W : Dev nD → S4096x2048.Idx → Elt F .f32)

/-- The maximum over the device and the two before it. -/
def gm (c : Dev nD) : F .f32 :=
  k0_pay37 (k0_pay36 (am (X c) (W c) 7) (ambs (X (src 0 c)) (W (src 0 c)))) (ambs (X (src 1 c)) (W (src 1 c)))
/-- The scale. -/
def scl (c : Dev nD) : F .f32 := k0_pay38 (gm X W c) (ambs (X (src 2 c)) (W (src 2 c)))
/-- Device `c`'s quantized chunk for device `j`. -/
def qv (c : Dev nD) (j : Fin 4) : S1x1024x512.Idx → Elt F .fp8e4m3 :=
  k0_pay39 (gm X W c) (ambs (X (src 2 c)) (W (src 2 c))) (ych (X c) (W c) j)
/-- Rows `1024 s` and on of device `c`'s result. -/
def ov (c : Dev nD) (s : Fin 4) : S1024x512.Idx → Elt F .f32 := k0_pay44 (scl X W c) (qv X W s c)
/-- Device `c`'s result. -/
def outAt (c : Dev nD) : S4096x512.Idx → Elt F .f32 := fun i =>
  ov X W c ⟨(i 0).val / 1024, Nat.div_lt_of_lt_mul (i 0).isLt⟩ (ix2 (n0 := 1024) (n1 := 512) ⟨(i 0).val % 1024, Nat.mod_lt _ (by decide)⟩ (i 1))

theorem yblk_eq (X : S1024x4096.Idx → Elt F .f32) (W : S4096x2048.Idx → Elt F .f32) (b : Fin 8) (j : S1024x256.Idx) :
    yv X W ((yR b).emb j) = yblk X W b j := by
  have h1 : (j 1).val < 256 := (j 1).isLt
  unfold yv
  congr 1
  · apply Fin.ext
    show (256 * b.val + 1 * (j 1).val) / 256 = b.val
    omega
  · funext a
    apply Fin.ext
    fin_cases a
    · show 0 + 1 * (j 0).val = (j 0).val
      omega
    · show (256 * b.val + 1 * (j 1).val) % 256 = (j 1).val
      omega

theorem ov_eq (c : Dev nD) (s : Fin 4) (j : S1024x512.Idx) : outAt X W c ((oR s).emb j) = ov X W c s j := by
  have h1 : (j 0).val < 1024 := (j 0).isLt
  unfold outAt
  congr 1
  · apply Fin.ext
    show (1024 * s.val + 1 * (j 0).val) / 1024 = s.val
    omega
  · funext a
    apply Fin.ext
    fin_cases a
    · show (1024 * s.val + 1 * (j 0).val) % 1024 = (j 0).val
      omega
    · show 0 + 1 * (j 1).val = (j 1).val
      omega

end Cert.KernelIdeal.Prf

end
-- ==== Proof.KernelIdeal.Sched.lean ====
/- The protocol between the devices: each cell's duties, amounts and payloads, what a device owes, and the order in
   which waits may be entered. -/
module

public import proofs.«01_k».proof.Proof.KernelIdeal.Spec
public import proofs.«01_k».proof.Proof.Gen.KernelIdeal.Frame
public import Idealize.ShloMosaic.Lib.MemrefSat
public import Idealize.ShloMosaic.Lib.Pipeline.Launch
public import Idealize.ShloMosaic.Lib.Transfers

@[expose] public section

noncomputable section

namespace Cert.KernelIdeal.Prf

open Cert.KernelIdeal Cert.KernelIdeal.Gen Cert.Own
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The algebra: the staging pipeline's part, the protocol's rounds, the local copies' counters -/

abbrev UB : Type := URounds (GSem nD τ sig) (Fin 3)
abbrev UU : Type := UR sig nD τ × (UB × Counters)

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := (Emb.inl : Emb UB (UB × Counters)).trans embR
abbrev EC : UEmb Counters (MT nD τ sig Unit (Elt F) ℕ UU ℕ) := countersEmb (U := UU)

/-! ## The buffers -/

abbrev xM : Memref sig .tc .vmem S1024x4096 .f32 := Memref.whole cc0_stg0_0
abbrev wM : Memref sig .tc .hbm S4096x2048 .f32 := Memref.whole main_arg1
abbrev oM : Memref sig .tc .vmem S4096x512 .f32 := Memref.whole cc0_stg1_0
abbrev xbM : Memref sig .tc .vmem S1024x4096 .bf16 := Memref.whole cc0_scratch0
abbrev wbM : Memref sig .tc .vmem S2x4096x256 .f32 := Memref.whole cc0_scratch1
abbrev wcM : Memref sig .tc .vmem S2x4096x256 .bf16 := Memref.whole cc0_scratch2
abbrev yM : Memref sig .tc .vmem S1024x2048 .f32 := Memref.whole cc0_scratch3
abbrev qM : Memref sig .tc .vmem S4x1024x512 .fp8e4m3 := Memref.whole cc0_scratch4
abbrev qiM : Memref sig .tc .vmem S3x1024x512 .fp8e4m3 := Memref.whole cc0_scratch5
abbrev amM : Memref sig .tc .vmem S8x128 .f32 := Memref.whole cc0_scratch6
abbrev arM : Memref sig .tc .vmem S3x8x128 .f32 := Memref.whole cc0_scratch7

abbrev wS (b : Fin 8) : Memref sig .tc .hbm S4096x256 .f32 := wM.slice (wR b) (fun _ => rfl)
abbrev wbS (j : Fin 2) : Memref sig .tc .vmem S1x4096x256 .f32 := wbM.slice (slR j) (fun _ => rfl)
abbrev wcS (j : Fin 2) : Memref sig .tc .vmem S1x4096x256 .bf16 := wcM.slice (slR j) (fun _ => rfl)
abbrev yS (b : Fin 8) : Memref sig .tc .vmem S1024x256 .f32 := yM.slice (yR b) (fun _ => rfl)
abbrev oS (j : Fin 4) : Memref sig .tc .vmem S1024x512 .f32 := oM.slice (oR j) (fun _ => rfl)
abbrev qS (j : Fin 4) : Memref sig .tc .vmem S1x1024x512 .fp8e4m3 := qM.slice (qR j) (fun _ => rfl)
abbrev qiS (k : Fin 3) : Memref sig .tc .vmem S1x1024x512 .fp8e4m3 := qiM.slice (qiR k) (fun _ => rfl)
abbrev arS (k : Fin 3) : Memref sig .tc .vmem S1x8x128 .f32 := arM.slice (arR k) (fun _ => rfl)

/-! ## The cells -/

abbrev barS : Sem sig := (SemArray.scalar (sig.barrier 0 rfl) : Sems sig S_).sem
/-- The semaphores of the two copies of the weights in flight; -/
abbrev wSem (j : Fin 2) : DmaSem sig := ⟨2 + j.val, by have := j.isLt; show 2 + j.val < 16; omega⟩
/-- of the chunks sent and received; -/
abbrev qsSem (k : Fin 3) : DmaSem sig := ⟨4 + k.val, by have := k.isLt; show 4 + k.val < 16; omega⟩
abbrev qrSem (k : Fin 3) : DmaSem sig := ⟨7 + k.val, by have := k.isLt; show 7 + k.val < 16; omega⟩
/-- of the maxima sent and received. -/
abbrev asSem (k : Fin 3) : DmaSem sig := ⟨10 + k.val, by have := k.isLt; show 10 + k.val < 16; omega⟩
abbrev arSem (k : Fin 3) : DmaSem sig := ⟨13 + k.val, by have := k.isLt; show 13 + k.val < 16; omega⟩

abbrev barC (c : Dev nD) : GSem nD τ sig := ((c : Thread nD τ), .reg barS)
abbrev dC (q : DmaSem sig) (c : Dev nD) : GSem nD τ sig := ((c : Thread nD τ), .dma q)

/-- The credit of a chunk and of a block of maxima. -/
abbrev NQ : ℕ := ((qiS 0).squeeze S1024x512 squeezes_S1x1024x512_S1024x512).view.dmaCredit
abbrev NA : ℕ := ((arS 0).squeeze S8x128 squeezes_S1x8x128_S8x128).view.dmaCredit
theorem NQ_pos : 0 < NQ := View.dmaCredit_pos _ (by decide)
theorem NA_pos : 0 < NA := View.dmaCredit_pos _ (by decide)

/-! ## The schedule -/

section Sched
variable (X : Dev nD → S1024x4096.Idx → Elt F .f32) (W : Dev nD → S4096x2048.Idx → Elt F .f32)

/-- The thirds of the buffer of maxima that the three copies read. -/
def third : Fin 3 → PosShare TreeShare := fun
  | 0 => fullShare.left
  | 1 => fullShare.right.left
  | 2 => fullShare.right.right

/-- What the signal of the device `j + 1` places on hands `c`: that device's slots `j`, for `c` to write. -/
def barPay (c : Dev nD) (j : Fin 3) : sProp 𝕄 :=
  iprop((∃ Z, owns (tgt j c : Thread nD τ) (arS j) fullShare Z) ∗ ∃ Z, owns (tgt j c : Thread nD τ) (qiS j) fullShare Z)
def qsPay (c : Dev nD) (k : Fin 3) : sProp 𝕄 := owns (c : Thread nD τ) (qS (tgt k c)) fullShare (qv X W c (tgt k c))
def qrPay (c : Dev nD) (k : Fin 3) : sProp 𝕄 := owns (c : Thread nD τ) (qiS k) fullShare (qv X W (src k c) c)
def asPay (c : Dev nD) (k : Fin 3) : sProp 𝕄 := owns (c : Thread nD τ) amM (third k) (amb (X c) (W c))
def arPay (c : Dev nD) (k : Fin 3) : sProp 𝕄 := owns (c : Thread nD τ) (arS k) fullShare (ambs (X (src k c)) (W (src k c)))

/-- The payload of a copy's cell, by the semaphore's place. -/
def xPay (c : Dev nD) : ℕ → sProp 𝕄
  | 4 => qsPay X W c 0 | 5 => qsPay X W c 1 | 6 => qsPay X W c 2
  | 7 => qrPay X W c 0 | 8 => qrPay X W c 1 | 9 => qrPay X W c 2
  | 10 => asPay X W c 0 | 11 => asPay X W c 1 | 12 => asPay X W c 2
  | 13 => arPay X W c 0 | 14 => arPay X W c 1 | 15 => arPay X W c 2
  | _ => iprop(emp)

/-- What one unit of a round is: of the barrier a signal, of the others a copy's credit. -/
def amt : SemLoc sig → ℕ
  | .reg _ => 1
  | .dma q => if q.val < 10 then NQ else NA

def duts : SemLoc sig → Finset (Fin 3)
  | .reg _ => Finset.univ
  | .dma q => if 4 ≤ q.val then {0} else ∅

def pays (c : Dev nD) (d : Fin 3) : SemLoc sig → sProp 𝕄
  | .reg _ => barPay c d
  | .dma q => xPay X W c q.val

instance pays_storable (c : Dev nD) (d : Fin 3) (sm : SemLoc sig) : BI.Storable (upEmb : UEmb _ 𝕄) (pays X W c d sm) := by
  cases sm with
  | reg s => show BI.Storable upEmb (barPay c d); unfold barPay; infer_instance
  | dma q =>
    show BI.Storable upEmb (xPay X W c q.val)
    unfold xPay
    split <;> (try unfold qsPay) <;> (try unfold qrPay) <;> (try unfold asPay) <;> (try unfold arPay) <;> infer_instance

/-- One round, round 0, on every cell. -/
def Rd : Rounds.Schedule (GSem nD τ sig) (Fin 3) 𝕄 where
  duties g r := if r = 0 ∧ g.1.2 = .tc then duts g.2 else ∅
  unitless _ := False
  amount g _ _ := amt g.2
  payload g _ d := pays X W g.1.1 d g.2
  amount_pos g _ _ _ := by
    cases h : g.2 with
    | reg s => exact Nat.one_pos
    | dma q =>
      show 0 < if q.val < 10 then NQ else NA
      split
      · exact NQ_pos
      · exact NA_pos

instance Rd_storable (g : GSem nD τ sig) (r : ℕ) (d : Fin 3) : BI.Storable (upEmb : UEmb _ 𝕄) ((Rd X W).payload g r d) :=
  pays_storable X W g.1.1 d g.2

theorem duties_bar (c : Dev nD) : (Rd X W).duties (barC c) 0 = Finset.univ := by
  dsimp only [Rd]; rw [if_pos ⟨rfl, rfl⟩]; rfl
theorem duties_dma (c : Dev nD) (q : DmaSem sig) (hq : 4 ≤ q.val) : (Rd X W).duties (dC q c) 0 = {0} := by
  dsimp only [Rd]; rw [if_pos ⟨rfl, rfl⟩]; exact if_pos hq
theorem duties_later (g : GSem nD τ sig) : ∀ r, 1 ≤ r → (Rd X W).duties g r = ∅ :=
  fun r hr => by dsimp only [Rd]; rw [if_neg fun h => by omega]

theorem expect_bar (c : Dev nD) : (Rd X W).expect (barC c) 0 = 3 := by
  unfold Schedule.expect Schedule.amountOf
  rw [duties_bar, Finset.sum_congr rfl fun d _ => (show (Rd X W).amount (barC c) 0 d = 1 from rfl)]
  rfl
theorem expect_dma (c : Dev nD) (q : DmaSem sig) (hq : 4 ≤ q.val) : (Rd X W).expect (dC q c) 0 = amt (.dma q) := by
  unfold Schedule.expect Schedule.amountOf; rw [duties_dma X W c q hq, Finset.sum_singleton]; rfl

theorem rest_bar (c : Dev nD) : bigSep ((Rd X W).duties (barC c) 0 \ ∅) (fun d => (Rd X W).payload (barC c) 0 d)
    = iprop(barPay c 0 ∗ barPay c 1 ∗ barPay c 2) := by
  rw [Finset.sdiff_empty, duties_bar, bigSep_univ_eq_bigSepL [0, 1, 2] (by decide) (by decide)]
  rfl
theorem rest_dma (c : Dev nD) (q : DmaSem sig) (hq : 4 ≤ q.val) :
    bigSep ((Rd X W).duties (dC q c) 0 \ ∅) (fun d => (Rd X W).payload (dC q c) 0 d) = xPay X W c q.val := by
  rw [Finset.sdiff_empty, duties_dma X W c q hq, bigSep_singleton]; rfl

theorem xPay_qs (c : Dev nD) (k : Fin 3) : xPay X W c (qsSem k).val = qsPay X W c k := by fin_cases k <;> rfl
theorem xPay_qr (c : Dev nD) (k : Fin 3) : xPay X W c (qrSem k).val = qrPay X W c k := by fin_cases k <;> rfl
theorem xPay_as (c : Dev nD) (k : Fin 3) : xPay X W c (asSem k).val = asPay X W c k := by fin_cases k <;> rfl
theorem xPay_ar (c : Dev nD) (k : Fin 3) : xPay X W c (arSem k).val = arPay X W c k := by fin_cases k <;> rfl
theorem amt_qs (k : Fin 3) : amt (.dma (qsSem k)) = NQ := by fin_cases k <;> rfl
theorem amt_qr (k : Fin 3) : amt (.dma (qrSem k)) = NQ := by fin_cases k <;> rfl
theorem amt_as (k : Fin 3) : amt (.dma (asSem k)) = NA := by fin_cases k <;> rfl
theorem amt_ar (k : Fin 3) : amt (.dma (arSem k)) = NA := by fin_cases k <;> rfl

end Sched

/-! ## What a device owes, and the levels -/

/-- The cells a device pays, the last paid first. -/
def pc (c : Dev nD) : ℕ → GSem nD τ sig
  | 0 => dC (qrSem 2) (tgt 2 c) | 1 => dC (qrSem 1) (tgt 1 c) | 2 => dC (qrSem 0) (tgt 0 c)
  | 3 => dC (arSem 2) (tgt 2 c) | 4 => dC (arSem 1) (tgt 1 c) | 5 => dC (arSem 0) (tgt 0 c)
  | 6 => barC (tgt 2 c) | 7 => barC (tgt 1 c) | _ => barC (tgt 0 c)
def pa : ℕ → ℕ
  | 0 => NQ | 1 => NQ | 2 => NQ | 3 => NA | 4 => NA | 5 => NA | _ => 1
/-- What is owed while `n` payments remain. -/
def O (c : Dev nD) : ℕ → CellTallies nD τ sig Unit
  | 0 => 0
  | n + 1 => O c n + tallyAt (pc c n) () (pa n)

def L (g : GSem nD τ sig) : Finset Unit := if g.1.2 = .tc then {()} else ∅
def lvl : SemLoc sig → ℕ
  | .reg _ => 1
  | .dma q => if 13 ≤ q.val then 2 else if 7 ≤ q.val ∧ q.val < 10 then 3 else 0
def lv (g : GSem nD τ sig) (_ : Unit) : ℕ := lvl g.2

theorem L_of_ne (g : GSem nD τ sig) (h : g.1.2 ≠ .tc) : L g = ∅ := if_neg h
theorem L_tc (c : Dev nD) (sm : SemLoc sig) : L ((c : Thread nD τ), sm) = {()} := if_pos rfl

/-- The levels of the cells paid. -/
def pl : ℕ → ℕ
  | 0 => 3 | 1 => 3 | 2 => 3 | 3 => 2 | 4 => 2 | 5 => 2 | _ => 1

theorem lv_pc (c : Dev nD) (n : ℕ) : lv (pc c n) () = pl n := by
  rcases n with _ | _ | _ | _ | _ | _ | _ | _ | n <;> rfl
theorem L_pc (c : Dev nD) (n : ℕ) : () ∈ L (pc c n) := by
  rcases n with _ | _ | _ | _ | _ | _ | _ | _ | n <;> exact Finset.mem_singleton_self _

theorem O_pos (c : Dev nD) (n : ℕ) {g : GSem nD τ sig} {u : Unit} (h : 0 < O c n g u) : ∃ i < n, g = pc c i := by
  induction n with
  | zero => exact absurd h (Nat.lt_irrefl 0)
  | succ n ih =>
    rw [O, Pi.add_apply, Finsupp.add_apply, tallyAt_apply] at h
    by_cases hg : g = pc c n ∧ u = ()
    · exact ⟨n, Nat.lt_succ_self n, hg.1⟩
    · rw [if_neg hg, Nat.add_zero] at h
      obtain ⟨i, hi, he⟩ := ih h
      exact ⟨i, Nat.lt_succ_of_lt hi, he⟩

/-- A wait may be entered while what is owed lies above it. -/
theorem mayWait (c : Dev nD) (sm : SemLoc sig) (n : ℕ) (h : ∀ i < n, lvl sm < pl i) :
    (levAts L lv : sProp 𝕄) ⊢ MayWait (c : Thread nD τ) sm () (O c n) :=
  Pipeline.mayWait_of_levAts (by rw [L_tc]; exact Finset.mem_singleton_self _) fun g u hg => by
    obtain ⟨i, hi, rfl⟩ := O_pos c n hg
    cases u
    exact ⟨L_pc c i, by rw [lv_pc]; exact h i hi⟩

end Cert.KernelIdeal.Prf

end
-- ==== Proof.KernelIdeal.Steps.lean ====
/- The steps that touch the protocol: the signals and the wait of the entry handshake, the copies between devices, the
   waits on them, and the local copies of the weights. -/
module

public import proofs.«01_k».proof.Proof.KernelIdeal.Sched

@[expose] public section

noncomputable section

namespace Cert.KernelIdeal.Prf

open Cert.KernelIdeal Cert.KernelIdeal.Gen Cert.Own
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

variable (X : Dev nD → S1024x4096.Idx → Elt F .f32) (W : Dev nD → S4096x2048.Idx → Elt F .f32)

/-! ## The cells' invariants and marks -/

/-- The protocol's cells of a device: the barrier, then the twelve copy semaphores. -/
abbrev csem : Fin 13 → SemLoc sig := fun
  | ⟨0, _⟩ => .reg barS
  | ⟨n + 1, h⟩ => .dma ⟨4 + n, by show 4 + n < 16; omega⟩
abbrev kcell (ck : Dev nD × Fin 13) : GSem nD τ sig := ((ck.1 : Thread nD τ), csem ck.2)

def invs (K : Dev nD × Fin 13 → ℕ) : sProp 𝕄 :=
  iprop((bigSep Finset.univ fun ck : Dev nD × Fin 13 => cellInv ER (Rd X W) (K ck) (kcell ck))
    ∗ bigSep Finset.univ fun ck : Dev nD × Fin 13 => reached ER (kcell ck) 0)

instance invs_persistent (K : Dev nD × Fin 13 → ℕ) : BI.Persistent (invs X W K) := by unfold invs; infer_instance

/-- A semaphore's place among the protocol's. -/
def ci (q : DmaSem sig) (hq : 4 ≤ q.val) : Fin 13 := ⟨q.val - 4 + 1, by have : q.val < 16 := q.isLt; omega⟩
theorem csem_ci (q : DmaSem sig) (hq : 4 ≤ q.val) : csem (ci q hq) = .dma q := by
  show SemLoc.dma _ = _
  congr 1; apply Fin.ext; show 4 + (q.val - 4) = q.val; omega

variable (K : Dev nD × Fin 13 → ℕ)

theorem inv_bar (c : Dev nD) : invs X W K ⊢ iprop(cellInv ER (Rd X W) (K (c, 0)) (barC c) ∗ reached ER (barC c) 0) := by
  unfold invs
  exact BIClass.sep_mono (bigSep_elim (Finset.mem_univ ((c, 0) : Dev nD × Fin 13))) (bigSep_elim (Finset.mem_univ ((c, 0) : Dev nD × Fin 13)))
theorem inv_dma (c : Dev nD) (q : DmaSem sig) (hq : 4 ≤ q.val) :
    invs X W K ⊢ iprop(cellInv ER (Rd X W) (K (c, ci q hq)) (dC q c) ∗ reached ER (dC q c) 0) := by
  have h : kcell (c, ci q hq) = dC q c := congrArg (Prod.mk (c : Thread nD τ)) (csem_ci q hq)
  rw [← h]
  unfold invs
  exact BIClass.sep_mono (bigSep_elim (Finset.mem_univ ((c, ci q hq) : Dev nD × Fin 13))) (bigSep_elim (Finset.mem_univ ((c, ci q hq) : Dev nD × Fin 13)))

/-- What a device owes with `n` payments to go. -/
def ow (c : Dev nD) (n : ℕ) : sProp 𝕄 := iprop(∃ Ws, owes (c : Thread nD τ) (O c n) Ws)

theorem am_amount (k : Fin 3) (q : DmaSem sig) : ((arS k).squeeze S8x128 squeezes_S1x8x128_S8x128).view.amount (.dma q) = NA := rfl
theorem q_amount (k : Fin 3) (q : DmaSem sig) : ((qiS k).squeeze S1024x512 squeezes_S1x1024x512_S1024x512).view.amount (.dma q) = NQ := rfl
/-- The credit of a block of the weights. -/
abbrev NW : ℕ := ((wbS 0).squeeze S4096x256 squeezes_S1x4096x256_S4096x256).view.dmaCredit
theorem NW_pos : 0 < NW := View.dmaCredit_pos _ (by decide)
theorem w_amount (j : Fin 2) (q : DmaSem sig) : ((wbS j).squeeze S4096x256 squeezes_S1x4096x256_S4096x256).view.amount (.dma q) = NW := rfl
theorem route (c c' : Dev nD) : τ.routes (c : Thread nD τ) (c' : Thread nD τ) = true := by routes
theorem mem_dma (c : Dev nD) (q : DmaSem sig) (hq : 4 ≤ q.val) : (0 : Fin 3) ∈ (Rd X W).duties ((c : Thread nD τ), .dma q) 0 := by
  rw [duties_dma X W c q hq]; exact Finset.mem_singleton_self _
theorem amount_dma (c : Dev nD) (q : DmaSem sig) : (Rd X W).amount ((c : Thread nD τ), .dma q) 0 0 = amt (.dma q) := rfl
theorem payload_dma (c : Dev nD) (q : DmaSem sig) : (Rd X W).payload ((c : Thread nD τ), .dma q) 0 0 = xPay X W c q.val := rfl

section Steps
variable (c : Dev nD) {α : Type} {Q : α → sProp (MT nD τ sig Unit (Elt F) ℕ UU ℕ)}

/-! ## The handshake -/

/-- A signal hands the target the sender's slots that the target writes. -/
theorem wp_sig (k : Fin 3) (n : ℕ) (hpc : pc c n = barC (tgt k c)) (hpa : pa n = 1)
    (d : Dev nD) (hd : d = tgt k c) {kk : PUnit → Prog (TpuEff nD τ sig (Elt F) Λ₀ .tc) α} :
    iprop(invs X W K ∗ ow c (n + 1) ∗ dutyTok ER (barC (tgt k c)) 0 (Fin.rev k)
        ∗ (∃ Z, owns (c : Thread nD τ) (arS (Fin.rev k)) fullShare Z) ∗ (∃ Z, owns (c : Thread nD τ) (qiS (Fin.rev k)) fullShare Z))
      ⊢ iprop((ow c n -∗ wp frame (wpE (defs₀ (F := F)) 𝒱₀ (c : Thread nD τ) none) Set.univ (kk ⟨⟩) Q)
          -∗ wp frame (wpE (defs₀ (F := F)) 𝒱₀ (c : Thread nD τ) none) Set.univ
              (.op (.semSignal (Dev.tc d : Thread nD τ) barS 1) kk) Q) := by
  subst hd
  have hp : iprop((∃ Z, owns (c : Thread nD τ) (arS (Fin.rev k)) fullShare Z) ∗ (∃ Z, owns (c : Thread nD τ) (qiS (Fin.rev k)) fullShare Z))
      ⊢ (Rd X W).payload (barC (tgt k c)) 0 (Fin.rev k) := by
    show _ ⊢ barPay (tgt k c) (Fin.rev k)
    unfold barPay
    rw [tgt_rev]
  unfold ow
  iintro ⟨#HI, ⟨%Ws, HO⟩, Ht, Ha, Hq⟩ Hk
  ihave #Hb := (inv_bar X W K (tgt k c)) $$ HI
  icases Hb with ⟨Hi, Hr⟩
  iapply (Rounds.wp_signal 𝒱₀ ER (Rd X W) (c : Thread nD τ) none (dst := (tgt k c : Thread nD τ)) (κ := K (tgt k c, 0))
      (d := Fin.rev k) (O₀ := O c (n + 1)) (by rw [duties_bar]; exact Finset.mem_univ _) rfl () (O c n) (by rw [O, hpc, hpa]; rfl))
    $$ [HO Ht Ha Hq]
  · isplitr; · iexact Hi
    isplitl [HO]; · iexact HO
    isplitl [Ht]; · iexact Ht
    isplitl [Ha Hq]
    · iapply hp
      isplitl [Ha] <;> iassumption
    iexact Hr
  iintro HO
  iapply Hk
  iexists Ws
  iexact HO

/-- The wait for the three signals: the targets' slots, and the barrier closed. -/
theorem wp_bar (n : ℕ) (h : ∀ i < n, 1 < pl i) {kk : PUnit → Prog (TpuEff nD τ sig (Elt F) Λ₀ .tc) α} :
    iprop(invs X W K ∗ levAts L lv ∗ cred (tallyAt (barC c) () 3) ∗ ow c n ∗ atPos ER (barC c) 0 ∅ 0)
      ⊢ iprop((iprop(ow c n ∗ semVal (barC c) 0 ∗ barPay c 0 ∗ barPay c 1 ∗ barPay c 2)
            -∗ wp frame (wpE (defs₀ (F := F)) 𝒱₀ (c : Thread nD τ) none) Set.univ (kk ⟨⟩) Q)
          -∗ wp frame (wpE (defs₀ (F := F)) 𝒱₀ (c : Thread nD τ) none) Set.univ (.op (.semWait barS 3) kk) Q) := by
  unfold ow
  iintro ⟨#HI, #Hl, Hc, ⟨%Ws, HO⟩, Hat⟩ Hk
  ihave #Hb := (inv_bar X W K c) $$ HI
  icases Hb with ⟨Hi, Hr⟩
  iapply (Rounds.wp_wait_rest_token 𝒱₀ ER (Rd X W) (c : Thread nD τ) none (κ := K (c, 0))
      (wpE_semWait_eq 𝒱₀ (c : Thread nD τ) none Set.univ) (Set.mem_univ _) () (O := O c n) (W := Ws) (R := 0) (m := 0) (T := ∅)
      (by rw [expect_bar])) $$ [Hc HO Hat]
  · isplitr; · iexact Hi
    isplitl [Hc]; · iexact Hc
    isplitl [HO]; · iexact HO
    isplitr; · iapply (mayWait c (.reg barS) n h); iexact Hl
    iexact Hat
  iintro ⟨HO, Hat, -, Hp⟩
  ihave Hp := (Entails.of_eq (rest_bar X W c)) $$ Hp
  imod (Rounds.cell_close ER (Rd X W) (Set.mem_univ (K (c, 0))) (fun h => h) (R := 0 + 1) (duties_later X W (barC c))) $$ [Hat] with Hz
  · isplitr; · iexact Hi
    iexact Hat
  iapply Hk
  isplitl [HO]; · iexists _; iexact HO
  isplitl [Hz]; · iexact Hz
  iexact Hp

/-! ## The copies between devices -/

/-- A wait on a copy's semaphore: its payload, and the cell closed. -/
theorem wp_wait (q : DmaSem sig) (hq : 4 ≤ q.val) (N : ℕ) (hN : amt (.dma q) = N) (n : ℕ) (h : ∀ i < n, lvl (.dma q) < pl i)
    {P : sProp 𝕄} (hP : xPay X W c q.val = P) (q' : DmaSem sig) (hq' : q' = q)
    {sp sp' : Space} {s s' : Shape} {e e' : EltTy}
    {srcw : Memref sig .tc sp s e} {dstw : Memref sig .tc sp' s' e'} {hsrc : srcw.view.WordExact} {hdst : dstw.view.WordExact}
    (hd : dstw.view.dmaCredit = N)
    {kk : PUnit → Prog (TpuEff nD τ sig (Elt F) Λ₀ .tc) α} :
    iprop(invs X W K ∗ levAts L lv ∗ cred (tallyAt (dC q c) () N) ∗ ow c n ∗ atPos ER (dC q c) 0 ∅ 0)
      ⊢ iprop((iprop(ow c n ∗ semVal (dC q c) 0 ∗ P)
            -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 q' srcw dstw hsrc hdst) kk) Q) := by
  subst hq' hP hd
  unfold ow
  iintro ⟨#HI, #Hl, Hc, ⟨%Ws, HO⟩, Hat⟩ Hk
  ihave #Hb := (inv_dma X W K c q' hq) $$ HI
  icases Hb with ⟨Hi, Hr⟩
  iapply (Rounds.wp_wait_rest_token 𝒱₀ ER (Rd X W) (c : Thread nD τ) none (κ := K (c, ci q' hq))
      (wpE_waitDma2_eq 𝒱₀ (c : Thread nD τ) none Set.univ) (Set.mem_univ _) () (O := O c n) (W := Ws) (R := 0) (m := 0) (T := ∅)
      (by rw [Nat.zero_add, expect_dma X W c q' hq, hN])) $$ [Hc HO Hat]
  · isplitr; · iexact Hi
    isplitl [Hc]; · iexact Hc
    isplitl [HO]; · iexact HO
    isplitr; · iapply (mayWait c (.dma q') n h); iexact Hl
    iexact Hat
  iintro ⟨HO, Hat, -, Hp⟩
  ihave Hp := (Entails.of_eq (rest_dma X W c q' hq)) $$ Hp
  imod (Rounds.cell_close ER (Rd X W) (Set.mem_univ (K (c, ci q' hq))) (fun h => h) (R := 0 + 1) (duties_later X W (dC q' c))) $$ [Hat] with Hz
  · isplitr; · iexact Hi
    iexact Hat
  iapply Hk
  isplitl [HO]; · iexists _; iexact HO
  isplitl [Hz]; · iexact Hz
  iexact Hp

/-- A block of maxima sent to device `tgt k c`. -/
theorem wp_send_am (k : Fin 3) (n : ℕ) (hpc : pc c n = dC (arSem k) (tgt k c)) (hpa : pa n = NA)
    (d : Dev nD) (hd : d = tgt k c) (qs qr : DmaSem sig) (hqs : qs = asSem k) (hqr : qr = arSem k)
    (off : Fin 3 → ℕ) (hoff : off = ![k.val, 0, 0]) {hi : ∀ a, off a + S1x8x128.size a ≤ S3x8x128.size a}
    {hsc : ((arM.slice (Rect.unit off S1x8x128.size hi) (fun _ => rfl)).squeeze S8x128 squeezes_S1x8x128_S8x128 : Memref sig (Dev.tc d : Thread nD τ).2.kind .vmem S8x128 .f32).view.ref.isScScratch = false}
    {hsrc : amM.view.WordExact} {hdst : ((arM.slice (Rect.unit off S1x8x128.size hi) (fun _ => rfl)).squeeze S8x128 squeezes_S1x8x128_S8x128 : Memref sig .tc .vmem S8x128 .f32).view.WordExact}
    {hsem : DmaTarget.Typed .vmem (.dma qr) (.remote (Dev.tc d : Thread nD τ) ((arM.slice (Rect.unit off S1x8x128.size hi) (fun _ => rfl)).squeeze S8x128 squeezes_S1x8x128_S8x128 : Memref sig .tc .vmem S8x128 .f32) (.dma qs) hsc)}
    {kk : PUnit → Prog (TpuEff nD τ sig (Elt F) Λ₀ .tc) α} :
    iprop(invs X W K ∗ owns (c : Thread nD τ) amM (third k) (amb (X c) (W c)) ∗ (∃ Z, owns (tgt k c : Thread nD τ) (arS k) fullShare Z)
        ∗ ow c (n + 1) ∗ dutyTok ER (dC (asSem k) c) 0 0 ∗ dutyTok ER (dC (arSem k) (tgt k c)) 0 0)
      ⊢ iprop((iprop(cred (tallyAt (dC (asSem k) c) () NA) ∗ ow c n)
            -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma amM (.remote (Dev.tc d : Thread nD τ) ((arM.slice (Rect.unit off S1x8x128.size hi) (fun _ => rfl)).squeeze S8x128 squeezes_S1x8x128_S8x128) (.dma qs) hsc) (.dma qr) hsrc hdst hsem) kk) Q) := by
  subst hd hqs hqr hoff
  unfold ow
  iintro ⟨#HI, Hs, ⟨%Z, Hd⟩, ⟨%Ws, HO⟩, Ht, Ht'⟩ Hk
  ihave #Hb := (inv_dma X W K c (asSem k) (by show 4 ≤ 10 + k.val; omega)) $$ HI
  icases Hb with ⟨Hi, Hr⟩
  ihave #Hb' := (inv_dma X W K (tgt k c) (arSem k) (by show 4 ≤ 13 + k.val; omega)) $$ HI
  icases Hb' with ⟨Hi', Hr'⟩
  ihave Hd := (Entails.of_eq (owns_squeeze (tgt k c : Thread nD τ) (arS k) fullShare squeezes_S1x8x128_S8x128 Z)) $$ Hd
  have h₁ : (Rd X W).amount ((c : Thread nD τ), .dma (asSem k)) 0 0 = NA := (amount_dma X W c (asSem k)).trans (amt_as k)
  have h₂ : (Rd X W).amount ((tgt k c : Thread nD τ), .dma (arSem k)) 0 0 = NA := (amount_dma X W (tgt k c) (arSem k)).trans (amt_ar k)
  have p₁ : owns (c : Thread nD τ) amM (third k) (amb (X c) (W c)) ⊢ (Rd X W).payload ((c : Thread nD τ), .dma (asSem k)) 0 0 := by
    rw [payload_dma, xPay_as]; exact .rfl
  have p₂ : owns (tgt k c : Thread nD τ) ((arS k).squeeze S8x128 squeezes_S1x8x128_S8x128) fullShare (amb (X c) (W c))
      ⊢ (Rd X W).payload ((tgt k c : Thread nD τ), .dma (arSem k)) 0 0 := by
    rw [payload_dma, xPay_ar, owns_unsq (tgt k c : Thread nD τ) (arS k) fullShare squeezes_S1x8x128_S8x128]
    unfold arPay
    rw [src_tgt]
    exact .rfl
  have hO : O c (n + 1) = O c n + tallyAt ((tgt k c : Thread nD τ), .dma (arSem k)) () NA := by rw [O, hpc, hpa]
  iapply (Own.wp_send 𝒱₀ (c : Thread nD τ) ER (Rd X W) (c' := (tgt k c : Thread nD τ)) (src := amM) (dst := (arS k).squeeze S8x128 squeezes_S1x8x128_S8x128)
      (mem_dma X W c (asSem k) (by show 4 ≤ 10 + k.val; omega)) (mem_dma X W (tgt k c) (arSem k) (by show 4 ≤ 13 + k.val; omega))
      () () NA (am_amount k (arSem k)) h₁ h₂ (O c n) hO p₁ p₂ (hr := route c (tgt k c)))
    $$ [Hs Hd HO Ht Ht']
  · isplitr; · iexact Hi
    isplitr; · iexact Hi'
    isplitl [Hs]; · iexact Hs
    isplitl [Hd]; · iexact Hd
    isplitl [HO]; · iexact HO
    isplitl [Ht]; · iexact Ht
    isplitr; · iexact Hr
    isplitl [Ht']; · iexact Ht'
    iexact Hr'
  iintro ⟨Hc, HO⟩
  iapply Hk
  isplitl [Hc]; · iexact Hc
  iexists _; iexact HO

/-- A quantized chunk sent to device `tgt k c`. -/
theorem wp_send_q (k : Fin 3) (n : ℕ) (hpc : pc c n = dC (qrSem k) (tgt k c)) (hpa : pa n = NQ)
    (d : Dev nD) (hd : d = tgt k c) (qs qr : DmaSem sig) (hqs : qs = qsSem k) (hqr : qr = qrSem k)
    (ofs : Fin 3 → ℕ) (hofs : ofs = ![(tgt k c).val, 0, 0]) {his : ∀ a, ofs a + S1x1024x512.size a ≤ S4x1024x512.size a}
    (off : Fin 3 → ℕ) (hoff : off = ![k.val, 0, 0]) {hi : ∀ a, off a + S1x1024x512.size a ≤ S3x1024x512.size a}
    {hsc : ((qiM.slice (Rect.unit off S1x1024x512.size hi) (fun _ => rfl)).squeeze S1024x512 squeezes_S1x1024x512_S1024x512 : Memref sig (Dev.tc d : Thread nD τ).2.kind .vmem S1024x512 .fp8e4m3).view.ref.isScScratch = false}
    {hsrc : ((qM.slice (Rect.unit ofs S1x1024x512.size his) (fun _ => rfl)).squeeze S1024x512 squeezes_S1x1024x512_S1024x512 : Memref sig .tc .vmem S1024x512 .fp8e4m3).view.WordExact}
    {hdst : ((qiM.slice (Rect.unit off S1x1024x512.size hi) (fun _ => rfl)).squeeze S1024x512 squeezes_S1x1024x512_S1024x512 : Memref sig .tc .vmem S1024x512 .fp8e4m3).view.WordExact}
    {hsem : DmaTarget.Typed .vmem (.dma qr) (.remote (Dev.tc d : Thread nD τ) ((qiM.slice (Rect.unit off S1x1024x512.size hi) (fun _ => rfl)).squeeze S1024x512 squeezes_S1x1024x512_S1024x512 : Memref sig .tc .vmem S1024x512 .fp8e4m3) (.dma qs) hsc)}
    {kk : PUnit → Prog (TpuEff nD τ sig (Elt F) Λ₀ .tc) α} :
    iprop(invs X W K ∗ owns (c : Thread nD τ) (qS (tgt k c)) fullShare (qv X W c (tgt k c)) ∗ (∃ Z, owns (tgt k c : Thread nD τ) (qiS k) fullShare Z)
        ∗ ow c (n + 1) ∗ dutyTok ER (dC (qsSem k) c) 0 0 ∗ dutyTok ER (dC (qrSem k) (tgt k c)) 0 0)
      ⊢ iprop((iprop(cred (tallyAt (dC (qsSem k) c) () NQ) ∗ ow c n)
            -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma ((qM.slice (Rect.unit ofs S1x1024x512.size his) (fun _ => rfl)).squeeze S1024x512 squeezes_S1x1024x512_S1024x512)
                (.remote (Dev.tc d : Thread nD τ) ((qiM.slice (Rect.unit off S1x1024x512.size hi) (fun _ => rfl)).squeeze S1024x512 squeezes_S1x1024x512_S1024x512) (.dma qs) hsc) (.dma qr) hsrc hdst hsem) kk) Q) := by
  subst hd hqs hqr hoff hofs
  unfold ow
  iintro ⟨#HI, Hs, ⟨%Z, Hd⟩, ⟨%Ws, HO⟩, Ht, Ht'⟩ Hk
  ihave #Hb := (inv_dma X W K c (qsSem k) (by show 4 ≤ 4 + k.val; omega)) $$ HI
  icases Hb with ⟨Hi, Hr⟩
  ihave #Hb' := (inv_dma X W K (tgt k c) (qrSem k) (by show 4 ≤ 7 + k.val; omega)) $$ HI
  icases Hb' with ⟨Hi', Hr'⟩
  ihave Hs := (Entails.of_eq (owns_squeeze (c : Thread nD τ) (qS (tgt k c)) fullShare squeezes_S1x1024x512_S1024x512 (qv X W c (tgt k c)))) $$ Hs
  ihave Hd := (Entails.of_eq (owns_squeeze (tgt k c : Thread nD τ) (qiS k) fullShare squeezes_S1x1024x512_S1024x512 Z)) $$ Hd
  have h₁ : (Rd X W).amount ((c : Thread nD τ), .dma (qsSem k)) 0 0 = NQ := (amount_dma X W c (qsSem k)).trans (amt_qs k)
  have h₂ : (Rd X W).amount ((tgt k c : Thread nD τ), .dma (qrSem k)) 0 0 = NQ := (amount_dma X W (tgt k c) (qrSem k)).trans (amt_qr k)
  have p₁ : owns (c : Thread nD τ) ((qS (tgt k c)).squeeze S1024x512 squeezes_S1x1024x512_S1024x512) fullShare
        (fun i => qv X W c (tgt k c) (Shape.reshapeEquiv squeezes_S1x1024x512_S1024x512.numel_eq i))
      ⊢ (Rd X W).payload ((c : Thread nD τ), .dma (qsSem k)) 0 0 := by
    rw [payload_dma, xPay_qs, ← owns_squeeze (c : Thread nD τ) (qS (tgt k c)) fullShare squeezes_S1x1024x512_S1024x512]
    exact .rfl
  have p₂ : owns (tgt k c : Thread nD τ) ((qiS k).squeeze S1024x512 squeezes_S1x1024x512_S1024x512) fullShare
        (fun i => qv X W c (tgt k c) (Shape.reshapeEquiv squeezes_S1x1024x512_S1024x512.numel_eq i))
      ⊢ (Rd X W).payload ((tgt k c : Thread nD τ), .dma (qrSem k)) 0 0 := by
    rw [payload_dma, xPay_qr, ← owns_squeeze (tgt k c : Thread nD τ) (qiS k) fullShare squeezes_S1x1024x512_S1024x512]
    unfold qrPay
    rw [src_tgt]
  have hO : O c (n + 1) = O c n + tallyAt ((tgt k c : Thread nD τ), .dma (qrSem k)) () NQ := by rw [O, hpc, hpa]
  iapply (Own.wp_send 𝒱₀ (c : Thread nD τ) ER (Rd X W) (src := (qS (tgt k c)).squeeze S1024x512 squeezes_S1x1024x512_S1024x512)
      (c' := (tgt k c : Thread nD τ)) (dst := (qiS k).squeeze S1024x512 squeezes_S1x1024x512_S1024x512)
      (mem_dma X W c (qsSem k) (by show 4 ≤ 4 + k.val; omega)) (mem_dma X W (tgt k c) (qrSem k) (by show 4 ≤ 7 + k.val; omega))
      () () NQ (q_amount k (qrSem k)) h₁ h₂ (O c n) hO p₁ p₂ (hr := route c (tgt k c)))
    $$ [Hs Hd HO Ht Ht']
  · isplitr; · iexact Hi
    isplitr; · iexact Hi'
    isplitl [Hs]; · iexact Hs
    isplitl [Hd]; · iexact Hd
    isplitl [HO]; · iexact HO
    isplitl [Ht]; · iexact Ht
    isplitr; · iexact Hr
    isplitl [Ht']; · iexact Ht'
    iexact Hr'
  iintro ⟨Hc, HO⟩
  iapply Hk
  isplitl [Hc]; · iexact Hc
  iexists _; iexact HO

/-! ## The local copies of the weights -/

/-- A block of the weights in flight to slot `j`. -/
def wFl (b : Fin 8) (j : Fin 2) : sProp (MT nD τ sig Unit (Elt F) ℕ UU ℕ) :=
  Transfers.Flight EC (c : Thread nD τ) (.dma (wSem j)) () NW
    iprop(owns (c : Thread nD τ) (wbS j) fullShare (wslot (W c) b) ∗ owns (c : Thread nD τ) (wS b) fullShare (wblk (W c) b))

theorem wp_get (b : Fin 8) (j : Fin 2) (ofs : Fin 2 → ℕ) (hofs : ofs = ![0, 256 * b.val]) {his : ∀ a, ofs a + S4096x256.size a ≤ S4096x2048.size a}
    (off : Fin 3 → ℕ) (hoff : off = ![j.val, 0, 0]) {hi : ∀ a, off a + S1x4096x256.size a ≤ S2x4096x256.size a}
    (q : DmaSem sig) (hq : q = wSem j)
    {hsrc : (wM.slice (Rect.unit ofs S4096x256.size his) (fun _ => rfl)).view.WordExact}
    {hdst : ((wbM.slice (Rect.unit off S1x4096x256.size hi) (fun _ => rfl)).squeeze S4096x256 squeezes_S1x4096x256_S4096x256 : Memref sig .tc .vmem S4096x256 .f32).view.WordExact}
    {hsem : DmaTarget.Typed (nD := nD) (τ := τ) .hbm (.dma q) (.here (p := (.tc : Proc τ)) ((wbM.slice (Rect.unit off S1x4096x256.size hi) (fun _ => rfl)).squeeze S4096x256 squeezes_S1x4096x256_S4096x256 : Memref sig .tc .vmem S4096x256 .f32))}
    {kk : PUnit → Prog (TpuEff nD τ sig (Elt F) Λ₀ .tc) α} :
    iprop(owns (c : Thread nD τ) (wS b) fullShare (wblk (W c) b) ∗ (∃ Z, owns (c : Thread nD τ) (wbS j) fullShare Z) ∗ semVal (dC (wSem j) c) 0)
      ⊢ iprop((wFl W c b j -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma (wM.slice (Rect.unit ofs S4096x256.size his) (fun _ => rfl))
                (.here (p := (.tc : Proc τ)) ((wbM.slice (Rect.unit off S1x4096x256.size hi) (fun _ => rfl)).squeeze S4096x256 squeezes_S1x4096x256_S4096x256)) (.dma q) hsrc hdst hsem) kk) Q) := by
  subst hofs hoff hq
  have hD : (iprop(owns (c : Thread nD τ) ((wbS j).squeeze S4096x256 squeezes_S1x4096x256_S4096x256) fullShare (wblk (W c) b)
        ∗ owns (c : Thread nD τ) (wS b) fullShare (wblk (W c) b)) : sProp 𝕄)
      ⊢ iprop(owns (c : Thread nD τ) (wbS j) fullShare (wslot (W c) b) ∗ owns (c : Thread nD τ) (wS b) fullShare (wblk (W c) b)) := by
    rw [owns_unsq (c : Thread nD τ) (wbS j) fullShare squeezes_S1x4096x256_S4096x256]
    exact .rfl
  iintro ⟨Hs, ⟨%Z, Hd⟩, Hz⟩ Hk
  ihave Hd := (Entails.of_eq (owns_squeeze (c : Thread nD τ) (wbS j) fullShare squeezes_S1x4096x256_S4096x256 Z)) $$ Hd
  iapply (Own.wp_copy 𝒱₀ (c : Thread nD τ) EC (src := wS b) (dst := (wbS j).squeeze S4096x256 squeezes_S1x4096x256_S4096x256)
      (sm := .dma (wSem j)) () NW (w_amount j (wSem j)) NW_pos) $$ [Hs Hd Hz]
  · isplitl [Hs]; · iexact Hs
    isplitl [Hd]; · iexact Hd
    iexact Hz
  iintro HF
  iapply Hk
  unfold wFl
  iapply (Transfers.Flight_mono EC (c : Thread nD τ) hD) $$ HF

theorem wp_got (b : Fin 8) (j : Fin 2) (n : ℕ) (h : ∀ i < n, 0 < pl i) (q : DmaSem sig) (hq : q = wSem j)
    {sp sp' : Space} {s s' : Shape} {e e' : EltTy}
    {srcw : Memref sig .tc sp s e} {dstw : Memref sig .tc sp' s' e'} {hsrc : srcw.view.WordExact} {hdst : dstw.view.WordExact}
    (hd : dstw.view.dmaCredit = NW)
    {kk : PUnit → Prog (TpuEff nD τ sig (Elt F) Λ₀ .tc) α} :
    iprop(wFl W c b j ∗ levAts L lv ∗ ow c n)
      ⊢ iprop((iprop(ow c n ∗ semVal (dC (wSem j) c) 0 ∗ owns (c : Thread nD τ) (wbS j) fullShare (wslot (W c) b)
              ∗ owns (c : Thread nD τ) (wS b) fullShare (wblk (W c) b))
            -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 q srcw dstw hsrc hdst) kk) Q) := by
  subst hq
  unfold ow wFl
  iintro ⟨HF, #Hl, ⟨%Ws, HO⟩⟩ Hk
  iapply (Transfers.wp_waitLocalO EC 𝒱₀ (c : Thread nD τ) none () hd) $$ [HF HO]
  · isplitl [HF]; · iexact HF
    isplitl [HO]; · iexact HO
    iapply (mayWait c (.dma (wSem j)) n (fun i hi => by
      have hl : lvl (.dma (wSem j) : SemLoc sig) = 0 := by fin_cases j <;> rfl
      rw [hl]; exact h i hi))
    iexact Hl
  iintro ⟨⟨Hd, Hs⟩, Hz, HO⟩
  iapply Hk
  isplitl [HO]; · iexists _; iexact HO
  isplitl [Hz]; · iexact Hz
  isplitl [Hd] <;> iassumption

end Steps

end Cert.KernelIdeal.Prf

end
-- ==== Proof.KernelIdeal.Splits.lean ====
/- The buffers cut into the pieces that the kernel's steps move, and put together again. -/
module

public import proofs.«01_k».proof.Proof.KernelIdeal.Steps
public import proofs.«01_k».proof.Proof.Pieces

@[expose] public section

noncomputable section

namespace Cert.KernelIdeal.Prf

open Cert.KernelIdeal Cert.KernelIdeal.Gen Cert.Own
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → S1024x4096.Idx → Elt F .f32) (W : Dev nD → S4096x2048.Idx → Elt F .f32)
variable (c : Dev nD) {α : Type} {Q : α → sProp (MT nD τ sig Unit (Elt F) ℕ UU ℕ)}

/-! ## Chains -/

section Chains
variable {M : Type} [URA M]
theorem chain2 (Φ : Fin 2 → sProp M) : bigSep Finset.univ Φ = iprop(Φ 0 ∗ Φ 1) := bigSep_univ_eq_bigSepL [0, 1] (by decide) (by decide) Φ
theorem chain3 (Φ : Fin 3 → sProp M) : bigSep Finset.univ Φ = iprop(Φ 0 ∗ Φ 1 ∗ Φ 2) := bigSep_univ_eq_bigSepL [0, 1, 2] (by decide) (by decide) Φ
theorem chain4 (Φ : Fin 4 → sProp M) : bigSep Finset.univ Φ = iprop(Φ 0 ∗ Φ 1 ∗ Φ 2 ∗ Φ 3) :=
  bigSep_univ_eq_bigSepL [0, 1, 2, 3] (by decide) (by decide) Φ
theorem chain8 (Φ : Fin 8 → sProp M) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ
/-- From a device, and the devices after it, -/
theorem chainT (c : Dev nD) (Φ : Fin 4 → sProp M) : bigSep Finset.univ Φ = iprop(Φ c ∗ Φ (tgt 0 c) ∗ Φ (tgt 1 c) ∗ Φ (tgt 2 c)) :=
  bigSep_univ_eq_bigSepL [c, tgt 0 c, tgt 1 c, tgt 2 c] (by revert c; decide) (by revert c; decide) Φ
/-- or before it. -/
theorem chainS (c : Dev nD) (Φ : Fin 4 → sProp M) : bigSep Finset.univ Φ = iprop(Φ c ∗ Φ (src 0 c) ∗ Φ (src 1 c) ∗ Φ (src 2 c)) :=
  bigSep_univ_eq_bigSepL [c, src 0 c, src 1 c, src 2 c] (by revert c; decide) (by revert c; decide) Φ
end Chains

/-! ## The families of rectangles -/

theorem wR_bands : (∀ t t', t ≠ t' → Disjoint (wR t).set (wR t').set) ∧ (Finset.univ : Finset (Fin 8)).biUnion (fun t => (wR t).set) = Finset.univ :=
  bands 1 256 _ _ _ (fun t => by simp) rfl rfl (fun t b hb => by fin_cases b <;> first | exact absurd rfl hb | rfl) (fun b hb => by fin_cases b <;> first | exact absurd rfl hb | rfl)
theorem yR_bands : (∀ t t', t ≠ t' → Disjoint (yR t).set (yR t').set) ∧ (Finset.univ : Finset (Fin 8)).biUnion (fun t => (yR t).set) = Finset.univ :=
  bands 1 256 _ _ _ (fun t => by simp) rfl rfl (fun t b hb => by fin_cases b <;> first | exact absurd rfl hb | rfl) (fun b hb => by fin_cases b <;> first | exact absurd rfl hb | rfl)
theorem oR_bands : (∀ t t', t ≠ t' → Disjoint (oR t).set (oR t').set) ∧ (Finset.univ : Finset (Fin 4)).biUnion (fun t => (oR t).set) = Finset.univ :=
  bands 0 1024 _ _ _ (fun t => by simp) rfl rfl (fun t b hb => by fin_cases b <;> first | exact absurd rfl hb | rfl) (fun b hb => by fin_cases b <;> first | exact absurd rfl hb | rfl)
theorem qR_bands : (∀ t t', t ≠ t' → Disjoint (qR t).set (qR t').set) ∧ (Finset.univ : Finset (Fin 4)).biUnion (fun t => (qR t).set) = Finset.univ :=
  bands 0 1 _ _ _ (fun t => by simp) rfl rfl (fun t b hb => by fin_cases b <;> first | exact absurd rfl hb | rfl) (fun b hb => by fin_cases b <;> first | exact absurd rfl hb | rfl)
theorem slR_bands : (∀ t t', t ≠ t' → Disjoint (slR t).set (slR t').set) ∧ (Finset.univ : Finset (Fin 2)).biUnion (fun t => (slR t).set) = Finset.univ :=
  bands 0 1 _ _ _ (fun t => by simp) rfl rfl (fun t b hb => by fin_cases b <;> first | exact absurd rfl hb | rfl) (fun b hb => by fin_cases b <;> first | exact absurd rfl hb | rfl)
theorem qiR_bands : (∀ t t', t ≠ t' → Disjoint (qiR t).set (qiR t').set) ∧ (Finset.univ : Finset (Fin 3)).biUnion (fun t => (qiR t).set) = Finset.univ :=
  bands 0 1 _ _ _ (fun t => by simp) rfl rfl (fun t b hb => by fin_cases b <;> first | exact absurd rfl hb | rfl) (fun b hb => by fin_cases b <;> first | exact absurd rfl hb | rfl)
theorem arR_bands : (∀ t t', t ≠ t' → Disjoint (arR t).set (arR t').set) ∧ (Finset.univ : Finset (Fin 3)).biUnion (fun t => (arR t).set) = Finset.univ :=
  bands 0 1 _ _ _ (fun t => by simp) rfl rfl (fun t b hb => by fin_cases b <;> first | exact absurd rfl hb | rfl) (fun b hb => by fin_cases b <;> first | exact absurd rfl hb | rfl)

/-! ## Each buffer cut and joined -/

instance val_nonempty (e : EltTy) : Nonempty (Elt F e) := inferInstance

theorem cut_wb : (iprop((∃ Z, owns (c : Thread nD τ) wbM fullShare Z)) : sProp 𝕄) ⊢ iprop((∃ Z, owns (c : Thread nD τ) (wbS 0) fullShare Z) ∗ (∃ Z, owns (c : Thread nD τ) (wbS 1) fullShare Z)) := by
  have h := split_some (c : Thread nD τ) wbM fullShare slR (fun _ _ => rfl) slR_bands (Val := Elt F) (Ix := Unit) (Name := ℕ) (U := UU) (Lvl := ℕ)
  rw [chain2] at h; exact h
theorem join_wb : iprop((∃ Z, owns (c : Thread nD τ) (wbS 0) fullShare Z) ∗ (∃ Z, owns (c : Thread nD τ) (wbS 1) fullShare Z)) ⊢ (iprop((∃ Z, owns (c : Thread nD τ) wbM fullShare Z)) : sProp 𝕄) := by
  have h := join_some (c : Thread nD τ) wbM fullShare slR (fun _ _ => rfl) slR_bands (Val := Elt F) (Ix := Unit) (Name := ℕ) (U := UU) (Lvl := ℕ)
  rw [chain2] at h; exact h

theorem cut_wc : (iprop((∃ Z, owns (c : Thread nD τ) wcM fullShare Z)) : sProp 𝕄) ⊢ iprop((∃ Z, owns (c : Thread nD τ) (wcS 0) fullShare Z) ∗ (∃ Z, owns (c : Thread nD τ) (wcS 1) fullShare Z)) := by
  have h := split_some (c : Thread nD τ) wcM fullShare slR (fun _ _ => rfl) slR_bands (Val := Elt F) (Ix := Unit) (Name := ℕ) (U := UU) (Lvl := ℕ)
  rw [chain2] at h; exact h
theorem join_wc : iprop((∃ Z, owns (c : Thread nD τ) (wcS 0) fullShare Z) ∗ (∃ Z, owns (c : Thread nD τ) (wcS 1) fullShare Z)) ⊢ (iprop((∃ Z, owns (c : Thread nD τ) wcM fullShare Z)) : sProp 𝕄) := by
  have h := join_some (c : Thread nD τ) wcM fullShare slR (fun _ _ => rfl) slR_bands (Val := Elt F) (Ix := Unit) (Name := ℕ) (U := UU) (Lvl := ℕ)
  rw [chain2] at h; exact h

theorem cut_y : (iprop((∃ Z, owns (c : Thread nD τ) yM fullShare Z)) : sProp 𝕄) ⊢ iprop((∃ Z, owns (c : Thread nD τ) (yS 0) fullShare Z) ∗ (∃ Z, owns (c : Thread nD τ) (yS 1) fullShare Z) ∗ (∃ Z, owns (c : Thread nD τ) (yS 2) fullShare Z) ∗ (∃ Z, owns (c : Thread nD τ) (yS 3) fullShare Z) ∗ (∃ Z, owns (c : Thread nD τ) (yS 4) fullShare Z) ∗ (∃ Z, owns (c : Thread nD τ) (yS 5) fullShare Z) ∗ (∃ Z, owns (c : Thread nD τ) (yS 6) fullShare Z) ∗ (∃ Z, owns (c : Thread nD τ) (yS 7) fullShare Z)) := by
  have h := split_some (c : Thread nD τ) yM fullShare yR (fun _ _ => rfl) yR_bands (Val := Elt F) (Ix := Unit) (Name := ℕ) (U := UU) (Lvl := ℕ)
  rw [chain8] at h; exact h
theorem join_y : iprop((∃ Z, owns (c : Thread nD τ) (yS 0) fullShare Z) ∗ (∃ Z, owns (c : Thread nD τ) (yS 1) fullShare Z) ∗ (∃ Z, owns (c : Thread nD τ) (yS 2) fullShare Z) ∗ (∃ Z, owns (c : Thread nD τ) (yS 3) fullShare Z) ∗ (∃ Z, owns (c : Thread nD τ) (yS 4) fullShare Z) ∗ (∃ Z, owns (c : Thread nD τ) (yS 5) fullShare Z) ∗ (∃ Z, owns (c : Thread nD τ) (yS 6) fullShare Z) ∗ (∃ Z, owns (c : Thread nD τ) (yS 7) fullShare Z)) ⊢ (iprop((∃ Z, owns (c : Thread nD τ) yM fullShare Z)) : sProp 𝕄) := by
  have h := join_some (c : Thread nD τ) yM fullShare yR (fun _ _ => rfl) yR_bands (Val := Elt F) (Ix := Unit) (Name := ℕ) (U := UU) (Lvl := ℕ)
  rw [chain8] at h; exact h

theorem cut_q : (iprop((∃ Z, owns (c : Thread nD τ) qM fullShare Z)) : sProp 𝕄) ⊢ iprop((∃ Z, owns (c : Thread nD τ) (qS 0) fullShare Z) ∗ (∃ Z, owns (c : Thread nD τ) (qS 1) fullShare Z) ∗ (∃ Z, owns (c : Thread nD τ) (qS 2) fullShare Z) ∗ (∃ Z, owns (c : Thread nD τ) (qS 3) fullShare Z)) := by
  have h := split_some (c : Thread nD τ) qM fullShare qR (fun _ _ => rfl) qR_bands (Val := Elt F) (Ix := Unit) (Name := ℕ) (U := UU) (Lvl := ℕ)
  rw [chain4] at h; exact h
theorem join_q : iprop((∃ Z, owns (c : Thread nD τ) (qS 0) fullShare Z) ∗ (∃ Z, owns (c : Thread nD τ) (qS 1) fullShare Z) ∗ (∃ Z, owns (c : Thread nD τ) (qS 2) fullShare Z) ∗ (∃ Z, owns (c : Thread nD τ) (qS 3) fullShare Z)) ⊢ (iprop((∃ Z, owns (c : Thread nD τ) qM fullShare Z)) : sProp 𝕄) := by
  have h := join_some (c : Thread nD τ) qM fullShare qR (fun _ _ => rfl) qR_bands (Val := Elt F) (Ix := Unit) (Name := ℕ) (U := UU) (Lvl := ℕ)
  rw [chain4] at h; exact h

theorem cut_qt : (iprop((∃ Z, owns (c : Thread nD τ) qM fullShare Z)) : sProp 𝕄) ⊢ iprop((∃ Z, owns (c : Thread nD τ) (qS c) fullShare Z) ∗ (∃ Z, owns (c : Thread nD τ) (qS (tgt 0 c)) fullShare Z) ∗ (∃ Z, owns (c : Thread nD τ) (qS (tgt 1 c)) fullShare Z) ∗ (∃ Z, owns (c : Thread nD τ) (qS (tgt 2 c)) fullShare Z)) := by
  have h := split_some (c : Thread nD τ) qM fullShare qR (fun _ _ => rfl) qR_bands (Val := Elt F) (Ix := Unit) (Name := ℕ) (U := UU) (Lvl := ℕ)
  rw [chainT c] at h; exact h
theorem join_qt : iprop((∃ Z, owns (c : Thread nD τ) (qS c) fullShare Z) ∗ (∃ Z, owns (c : Thread nD τ) (qS (tgt 0 c)) fullShare Z) ∗ (∃ Z, owns (c : Thread nD τ) (qS (tgt 1 c)) fullShare Z) ∗ (∃ Z, owns (c : Thread nD τ) (qS (tgt 2 c)) fullShare Z)) ⊢ (iprop((∃ Z, owns (c : Thread nD τ) qM fullShare Z)) : sProp 𝕄) := by
  have h := join_some (c : Thread nD τ) qM fullShare qR (fun _ _ => rfl) qR_bands (Val := Elt F) (Ix := Unit) (Name := ℕ) (U := UU) (Lvl := ℕ)
  rw [chainT c] at h; exact h

theorem cut_qi : (iprop((∃ Z, owns (c : Thread nD τ) qiM fullShare Z)) : sProp 𝕄) ⊢ iprop((∃ Z, owns (c : Thread nD τ) (qiS 0) fullShare Z) ∗ (∃ Z, owns (c : Thread nD τ) (qiS 1) fullShare Z) ∗ (∃ Z, owns (c : Thread nD τ) (qiS 2) fullShare Z)) := by
  have h := split_some (c : Thread nD τ) qiM fullShare qiR (fun _ _ => rfl) qiR_bands (Val := Elt F) (Ix := Unit) (Name := ℕ) (U := UU) (Lvl := ℕ)
  rw [chain3] at h; exact h
theorem join_qi : iprop((∃ Z, owns (c : Thread nD τ) (qiS 0) fullShare Z) ∗ (∃ Z, owns (c : Thread nD τ) (qiS 1) fullShare Z) ∗ (∃ Z, owns (c : Thread nD τ) (qiS 2) fullShare Z)) ⊢ (iprop((∃ Z, owns (c : Thread nD τ) qiM fullShare Z)) : sProp 𝕄) := by
  have h := join_some (c : Thread nD τ) qiM fullShare qiR (fun _ _ => rfl) qiR_bands (Val := Elt F) (Ix := Unit) (Name := ℕ) (U := UU) (Lvl := ℕ)
  rw [chain3] at h; exact h

theorem cut_ar : (iprop((∃ Z, owns (c : Thread nD τ) arM fullShare Z)) : sProp 𝕄) ⊢ iprop((∃ Z, owns (c : Thread nD τ) (arS 0) fullShare Z) ∗ (∃ Z, owns (c : Thread nD τ) (arS 1) fullShare Z) ∗ (∃ Z, owns (c : Thread nD τ) (arS 2) fullShare Z)) := by
  have h := split_some (c : Thread nD τ) arM fullShare arR (fun _ _ => rfl) arR_bands (Val := Elt F) (Ix := Unit) (Name := ℕ) (U := UU) (Lvl := ℕ)
  rw [chain3] at h; exact h
theorem join_ar : iprop((∃ Z, owns (c : Thread nD τ) (arS 0) fullShare Z) ∗ (∃ Z, owns (c : Thread nD τ) (arS 1) fullShare Z) ∗ (∃ Z, owns (c : Thread nD τ) (arS 2) fullShare Z)) ⊢ (iprop((∃ Z, owns (c : Thread nD τ) arM fullShare Z)) : sProp 𝕄) := by
  have h := join_some (c : Thread nD τ) arM fullShare arR (fun _ _ => rfl) arR_bands (Val := Elt F) (Ix := Unit) (Name := ℕ) (U := UU) (Lvl := ℕ)
  rw [chain3] at h; exact h

theorem cut_o : (iprop((∃ Z, owns (c : Thread nD τ) oM fullShare Z)) : sProp 𝕄) ⊢ iprop((∃ Z, owns (c : Thread nD τ) (oS c) fullShare Z) ∗ (∃ Z, owns (c : Thread nD τ) (oS (src 0 c)) fullShare Z) ∗ (∃ Z, owns (c : Thread nD τ) (oS (src 1 c)) fullShare Z) ∗ (∃ Z, owns (c : Thread nD τ) (oS (src 2 c)) fullShare Z)) := by
  have h := split_some (c : Thread nD τ) oM fullShare oR (fun _ _ => rfl) oR_bands (Val := Elt F) (Ix := Unit) (Name := ℕ) (U := UU) (Lvl := ℕ)
  rw [chainS c] at h; exact h
theorem join_o : iprop((∃ Z, owns (c : Thread nD τ) (oS c) fullShare Z) ∗ (∃ Z, owns (c : Thread nD τ) (oS (src 0 c)) fullShare Z) ∗ (∃ Z, owns (c : Thread nD τ) (oS (src 1 c)) fullShare Z) ∗ (∃ Z, owns (c : Thread nD τ) (oS (src 2 c)) fullShare Z)) ⊢ (iprop((∃ Z, owns (c : Thread nD τ) oM fullShare Z)) : sProp 𝕄) := by
  have h := join_some (c : Thread nD τ) oM fullShare oR (fun _ _ => rfl) oR_bands (Val := Elt F) (Ix := Unit) (Name := ℕ) (U := UU) (Lvl := ℕ)
  rw [chainS c] at h; exact h

theorem cut_w : (owns (c : Thread nD τ) wM fullShare (W c) : sProp 𝕄) ⊢ iprop(owns (c : Thread nD τ) (wS 0) fullShare (wblk (W c) 0) ∗ owns (c : Thread nD τ) (wS 1) fullShare (wblk (W c) 1) ∗ owns (c : Thread nD τ) (wS 2) fullShare (wblk (W c) 2) ∗ owns (c : Thread nD τ) (wS 3) fullShare (wblk (W c) 3) ∗ owns (c : Thread nD τ) (wS 4) fullShare (wblk (W c) 4) ∗ owns (c : Thread nD τ) (wS 5) fullShare (wblk (W c) 5) ∗ owns (c : Thread nD τ) (wS 6) fullShare (wblk (W c) 6) ∗ owns (c : Thread nD τ) (wS 7) fullShare (wblk (W c) 7)) := by
  have h := split_at (c : Thread nD τ) wM fullShare wR (fun _ _ => rfl) wR_bands (Ix := Unit) (Name := ℕ) (U := UU) (Lvl := ℕ) (W c)
  rw [chain8] at h; exact h
theorem join_w : iprop(owns (c : Thread nD τ) (wS 0) fullShare (wblk (W c) 0) ∗ owns (c : Thread nD τ) (wS 1) fullShare (wblk (W c) 1) ∗ owns (c : Thread nD τ) (wS 2) fullShare (wblk (W c) 2) ∗ owns (c : Thread nD τ) (wS 3) fullShare (wblk (W c) 3) ∗ owns (c : Thread nD τ) (wS 4) fullShare (wblk (W c) 4) ∗ owns (c : Thread nD τ) (wS 5) fullShare (wblk (W c) 5) ∗ owns (c : Thread nD τ) (wS 6) fullShare (wblk (W c) 6) ∗ owns (c : Thread nD τ) (wS 7) fullShare (wblk (W c) 7)) ⊢ (owns (c : Thread nD τ) wM fullShare (W c) : sProp 𝕄) := by
  have h := join_at (c : Thread nD τ) wM fullShare wR (fun _ _ => rfl) wR_bands (Ix := Unit) (Name := ℕ) (U := UU) (Lvl := ℕ) (W c)
  rw [chain8] at h; exact h

theorem join_yv : iprop(owns (c : Thread nD τ) (yS 0) fullShare (yblk (X c) (W c) 0) ∗ owns (c : Thread nD τ) (yS 1) fullShare (yblk (X c) (W c) 1) ∗ owns (c : Thread nD τ) (yS 2) fullShare (yblk (X c) (W c) 2) ∗ owns (c : Thread nD τ) (yS 3) fullShare (yblk (X c) (W c) 3) ∗ owns (c : Thread nD τ) (yS 4) fullShare (yblk (X c) (W c) 4) ∗ owns (c : Thread nD τ) (yS 5) fullShare (yblk (X c) (W c) 5) ∗ owns (c : Thread nD τ) (yS 6) fullShare (yblk (X c) (W c) 6) ∗ owns (c : Thread nD τ) (yS 7) fullShare (yblk (X c) (W c) 7)) ⊢ (owns (c : Thread nD τ) yM fullShare (yv (X c) (W c)) : sProp 𝕄) := by
  have h := join_at (c : Thread nD τ) yM fullShare yR (fun _ _ => rfl) yR_bands (Ix := Unit) (Name := ℕ) (U := UU) (Lvl := ℕ) (yv (X c) (W c))
  have hy (b : Fin 8) : (fun j => yv (X c) (W c) ((yR b).emb j)) = yblk (X c) (W c) b := funext fun j => yblk_eq (X c) (W c) b j
  simp only [hy] at h
  rw [chain8] at h; exact h

theorem join_ov : iprop(owns (c : Thread nD τ) (oS c) fullShare (ov X W c c) ∗ owns (c : Thread nD τ) (oS (src 0 c)) fullShare (ov X W c (src 0 c)) ∗ owns (c : Thread nD τ) (oS (src 1 c)) fullShare (ov X W c (src 1 c)) ∗ owns (c : Thread nD τ) (oS (src 2 c)) fullShare (ov X W c (src 2 c))) ⊢ (owns (c : Thread nD τ) oM fullShare (outAt X W c) : sProp 𝕄) := by
  have h := join_at (c : Thread nD τ) oM fullShare oR (fun _ _ => rfl) oR_bands (Ix := Unit) (Name := ℕ) (U := UU) (Lvl := ℕ) (outAt X W c)
  have ho (t : Fin 4) : (fun j => outAt X W c ((oR t).emb j)) = ov X W c t := funext fun j => ov_eq X W c t j
  simp only [ho] at h
  rw [chainS c] at h; exact h

/-- The chunks, by the devices they are for. -/
theorem turn_q : (iprop(owns (c : Thread nD τ) (qS 0) fullShare (qv X W c 0) ∗ owns (c : Thread nD τ) (qS 1) fullShare (qv X W c 1) ∗ owns (c : Thread nD τ) (qS 2) fullShare (qv X W c 2) ∗ owns (c : Thread nD τ) (qS 3) fullShare (qv X W c 3)) : sProp 𝕄) ⊢ iprop(owns (c : Thread nD τ) (qS c) fullShare (qv X W c c) ∗ owns (c : Thread nD τ) (qS (tgt 0 c)) fullShare (qv X W c (tgt 0 c)) ∗ owns (c : Thread nD τ) (qS (tgt 1 c)) fullShare (qv X W c (tgt 1 c)) ∗ owns (c : Thread nD τ) (qS (tgt 2 c)) fullShare (qv X W c (tgt 2 c))) := by
  have h4 := chain4 (fun t : Fin 4 => (owns (c : Thread nD τ) (qS t) fullShare (qv X W c t) : sProp 𝕄))
  have hT := chainT c (fun t : Fin 4 => (owns (c : Thread nD τ) (qS t) fullShare (qv X W c t) : sProp 𝕄))
  exact Entails.of_eq (h4.symm.trans hT)

/-- The buffer of maxima, a third for each copy. -/
theorem thirds (Z : S8x128.Idx → Elt F .f32) : (owns (c : Thread nD τ) amM fullShare Z : sProp 𝕄)
    ⊣⊢ iprop(owns (c : Thread nD τ) amM (third 0) Z ∗ owns (c : Thread nD τ) amM (third 1) Z ∗ owns (c : Thread nD τ) amM (third 2) Z) := by
  have h₁ := owns_halves (c : Thread nD τ) amM fullShare (Ix := Unit) (Name := ℕ) (U := UU) (Lvl := ℕ) Z
  have h₂ := owns_halves (c : Thread nD τ) amM fullShare.right (Ix := Unit) (Name := ℕ) (U := UU) (Lvl := ℕ) Z
  exact ⟨h₁.1.trans (BIClass.sep_mono .rfl h₂.1), (BIClass.sep_mono .rfl h₂.2).trans h₁.2⟩

end Cert.KernelIdeal.Prf

end
-- ==== Proof.KernelIdeal.Blocks.lean ====
/- The product, block by block: each block of the weights awaited, rounded and multiplied, and the block after the next fetched. -/
module

public import proofs.«01_k».proof.Proof.KernelIdeal.Steps

@[expose] public section

noncomputable section

namespace Cert.KernelIdeal.Prf

open Cert.KernelIdeal Cert.KernelIdeal.Gen Cert.Own
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → S1024x4096.Idx → Elt F .f32) (W : Dev nD → S4096x2048.Idx → Elt F .f32)
variable (c : Dev nD) {α : Type} {Q : α → sProp (MT nD τ sig Unit (Elt F) ℕ UU ℕ)}

theorem z2 : (![0, 0] : Fin 2 → ℕ) = fun _ => 0 := funext fun a => by fin_cases a <;> rfl

/-- Block 0 of the product. -/
theorem wp_part3 {kk : F .f32 → Prog (TpuEff nD τ sig (Elt F) Λ₀ .tc) α} :
    iprop(levAts L lv ∗ ow c 6 ∗ wFl W c 0 0 ∗ owns (c : Thread nD τ) (wS 2) fullShare (wblk (W c) 2) ∗ (∃ Z, owns (c : Thread nD τ) (wcS 0) fullShare Z)
        ∗ owns (c : Thread nD τ) xbM fullShare (xbf (X c)) ∗ (∃ Z, owns (c : Thread nD τ) (yS 0) fullShare Z))
      ⊢ iprop((iprop(ow c 6 ∗ wFl W c 2 0 ∗ owns (c : Thread nD τ) (wS 0) fullShare (wblk (W c) 0) ∗ (∃ Z, owns (c : Thread nD τ) (wcS 0) fullShare Z)
            ∗ owns (c : Thread nD τ) xbM fullShare (xbf (X c)) ∗ owns (c : Thread nD τ) (yS 0) fullShare (yblk (X c) (W c) 0))
            -∗ wp frame (wpE (defs₀ (F := F)) 𝒱₀ (c : Thread nD τ) none) Set.univ (kk (am (X c) (W c) 0)) Q)
          -∗ wp frame (wpE (defs₀ (F := F)) 𝒱₀ (c : Thread nD τ) none) Set.univ (k0_part3 xM (Memref.isWhole_whole _) wM (Memref.isWhole_whole _) oM (Memref.isWhole_whole _) xbM (Memref.isWhole_whole _) wbM (Memref.isWhole_whole _) wcM (Memref.isWhole_whole _) yM (Memref.isWhole_whole _) qM (Memref.isWhole_whole _) qiM (Memref.isWhole_whole _) amM (Memref.isWhole_whole _) arM (Memref.isWhole_whole _) cc0_scratch8 cc0_scratch9 cc0_scratch10 cc0_scratch11 cc0_scratch12 >>= kk) Q) := by
  rw [k0_part3_eq_skeleton]
  unfold k0_part3_skel
  simp only [Prog.lift, Prog.bind_op, Prog.bind_ret, Prog.pure_eq_ret]
  iintro ⟨#Hl, HO, HF, Hw, ⟨%Zc, Hc⟩, Hx, ⟨%Zy, Hy⟩⟩ Hk
  iapply (wp_got W c 0 0 6 (by decide) _ rfl (by rfl)) $$ [HF HO]
  · isplitl [HF]; · iexact HF
    isplitr; · iexact Hl
    iexact HO
  iintro ⟨HO, Hz, Hb, Hw'⟩
  iapply (wp_load_slice 𝒱₀ (c : Thread nD τ) (m := wbM) (r := slR 0) (hr := fun _ => rfl)) $$ Hb
  iintro Hb
  iapply (wp_load_slice 𝒱₀ (c : Thread nD τ) (m := wcM) (r := slR 0) (hr := fun _ => rfl)) $$ Hc
  iintro Hc
  iapply (wp_store_slice 𝒱₀ (c : Thread nD τ) (m := wcM) (r := slR 0) (hr := fun _ => rfl)) $$ Hc
  iintro Hc
  iapply (wp_get W c 2 0 _ rfl _ rfl _ rfl) $$ [Hw Hb Hz]
  · isplitl [Hw]; · iexact Hw
    isplitl [Hb]; · iexists _; iexact Hb
    iexact Hz
  iintro HF
  iapply (wp_load_all 𝒱₀ (c : Thread nD τ) (m := xbM) z2) $$ Hx
  iintro Hx
  iapply (wp_load_slice 𝒱₀ (c : Thread nD τ) (m := wcM) (r := slR 0) (hr := fun _ => rfl)) $$ Hc
  iintro Hc
  iapply (wp_load_slice 𝒱₀ (c : Thread nD τ) (m := yM) (r := yR 0) (hr := fun _ => rfl)) $$ Hy
  iintro Hy
  iapply (wp_store_slice 𝒱₀ (c : Thread nD τ) (m := yM) (r := yR 0) (hr := fun _ => rfl)) $$ Hy
  iintro Hy
  iapply Hk
  isplitl [HO]; · iexact HO
  isplitl [HF]; · iexact HF
  isplitl [Hw']; · iexact Hw'
  isplitl [Hc]; · iexists _; iexact Hc
  isplitl [Hx]; · iexact Hx
  iexact Hy

/-- Block 1 of the product. -/
theorem wp_part4 {kk : F .f32 → Prog (TpuEff nD τ sig (Elt F) Λ₀ .tc) α} :
    iprop(levAts L lv ∗ ow c 6 ∗ wFl W c 1 1 ∗ owns (c : Thread nD τ) (wS 3) fullShare (wblk (W c) 3) ∗ (∃ Z, owns (c : Thread nD τ) (wcS 1) fullShare Z)
        ∗ owns (c : Thread nD τ) xbM fullShare (xbf (X c)) ∗ (∃ Z, owns (c : Thread nD τ) (yS 1) fullShare Z))
      ⊢ iprop((iprop(ow c 6 ∗ wFl W c 3 1 ∗ owns (c : Thread nD τ) (wS 1) fullShare (wblk (W c) 1) ∗ (∃ Z, owns (c : Thread nD τ) (wcS 1) fullShare Z)
            ∗ owns (c : Thread nD τ) xbM fullShare (xbf (X c)) ∗ owns (c : Thread nD τ) (yS 1) fullShare (yblk (X c) (W c) 1))
            -∗ wp frame (wpE (defs₀ (F := F)) 𝒱₀ (c : Thread nD τ) none) Set.univ (kk (am (X c) (W c) 1)) Q)
          -∗ wp frame (wpE (defs₀ (F := F)) 𝒱₀ (c : Thread nD τ) none) Set.univ (k0_part4 xM (Memref.isWhole_whole _) wM (Memref.isWhole_whole _) oM (Memref.isWhole_whole _) xbM (Memref.isWhole_whole _) wbM (Memref.isWhole_whole _) wcM (Memref.isWhole_whole _) yM (Memref.isWhole_whole _) qM (Memref.isWhole_whole _) qiM (Memref.isWhole_whole _) amM (Memref.isWhole_whole _) arM (Memref.isWhole_whole _) cc0_scratch8 cc0_scratch9 cc0_scratch10 cc0_scratch11 cc0_scratch12 (am (X c) (W c) 0) >>= kk) Q) := by
  rw [k0_part4_eq_skeleton]
  unfold k0_part4_skel
  simp only [Prog.lift, Prog.bind_op, Prog.bind_ret, Prog.pure_eq_ret]
  iintro ⟨#Hl, HO, HF, Hw, ⟨%Zc, Hc⟩, Hx, ⟨%Zy, Hy⟩⟩ Hk
  iapply (wp_got W c 1 1 6 (by decide) _ rfl (by rfl)) $$ [HF HO]
  · isplitl [HF]; · iexact HF
    isplitr; · iexact Hl
    iexact HO
  iintro ⟨HO, Hz, Hb, Hw'⟩
  iapply (wp_load_slice 𝒱₀ (c : Thread nD τ) (m := wbM) (r := slR 1) (hr := fun _ => rfl)) $$ Hb
  iintro Hb
  iapply (wp_load_slice 𝒱₀ (c : Thread nD τ) (m := wcM) (r := slR 1) (hr := fun _ => rfl)) $$ Hc
  iintro Hc
  iapply (wp_store_slice 𝒱₀ (c : Thread nD τ) (m := wcM) (r := slR 1) (hr := fun _ => rfl)) $$ Hc
  iintro Hc
  iapply (wp_get W c 3 1 _ rfl _ rfl _ rfl) $$ [Hw Hb Hz]
  · isplitl [Hw]; · iexact Hw
    isplitl [Hb]; · iexists _; iexact Hb
    iexact Hz
  iintro HF
  iapply (wp_load_all 𝒱₀ (c : Thread nD τ) (m := xbM) z2) $$ Hx
  iintro Hx
  iapply (wp_load_slice 𝒱₀ (c : Thread nD τ) (m := wcM) (r := slR 1) (hr := fun _ => rfl)) $$ Hc
  iintro Hc
  iapply (wp_load_slice 𝒱₀ (c : Thread nD τ) (m := yM) (r := yR 1) (hr := fun _ => rfl)) $$ Hy
  iintro Hy
  iapply (wp_store_slice 𝒱₀ (c : Thread nD τ) (m := yM) (r := yR 1) (hr := fun _ => rfl)) $$ Hy
  iintro Hy
  iapply Hk
  isplitl [HO]; · iexact HO
  isplitl [HF]; · iexact HF
  isplitl [Hw']; · iexact Hw'
  isplitl [Hc]; · iexists _; iexact Hc
  isplitl [Hx]; · iexact Hx
  iexact Hy

/-- Block 2 of the product. -/
theorem wp_part5 {kk : F .f32 → Prog (TpuEff nD τ sig (Elt F) Λ₀ .tc) α} :
    iprop(levAts L lv ∗ ow c 6 ∗ wFl W c 2 0 ∗ owns (c : Thread nD τ) (wS 4) fullShare (wblk (W c) 4) ∗ (∃ Z, owns (c : Thread nD τ) (wcS 0) fullShare Z)
        ∗ owns (c : Thread nD τ) xbM fullShare (xbf (X c)) ∗ (∃ Z, owns (c : Thread nD τ) (yS 2) fullShare Z))
      ⊢ iprop((iprop(ow c 6 ∗ wFl W c 4 0 ∗ owns (c : Thread nD τ) (wS 2) fullShare (wblk (W c) 2) ∗ (∃ Z, owns (c : Thread nD τ) (wcS 0) fullShare Z)
            ∗ owns (c : Thread nD τ) xbM fullShare (xbf (X c)) ∗ owns (c : Thread nD τ) (yS 2) fullShare (yblk (X c) (W c) 2))
            -∗ wp frame (wpE (defs₀ (F := F)) 𝒱₀ (c : Thread nD τ) none) Set.univ (kk (am (X c) (W c) 2)) Q)
          -∗ wp frame (wpE (defs₀ (F := F)) 𝒱₀ (c : Thread nD τ) none) Set.univ (k0_part5 xM (Memref.isWhole_whole _) wM (Memref.isWhole_whole _) oM (Memref.isWhole_whole _) xbM (Memref.isWhole_whole _) wbM (Memref.isWhole_whole _) wcM (Memref.isWhole_whole _) yM (Memref.isWhole_whole _) qM (Memref.isWhole_whole _) qiM (Memref.isWhole_whole _) amM (Memref.isWhole_whole _) arM (Memref.isWhole_whole _) cc0_scratch8 cc0_scratch9 cc0_scratch10 cc0_scratch11 cc0_scratch12 (am (X c) (W c) 1) >>= kk) Q) := by
  rw [k0_part5_eq_skeleton]
  unfold k0_part5_skel
  simp only [Prog.lift, Prog.bind_op, Prog.bind_ret, Prog.pure_eq_ret]
  iintro ⟨#Hl, HO, HF, Hw, ⟨%Zc, Hc⟩, Hx, ⟨%Zy, Hy⟩⟩ Hk
  iapply (wp_got W c 2 0 6 (by decide) _ rfl (by rfl)) $$ [HF HO]
  · isplitl [HF]; · iexact HF
    isplitr; · iexact Hl
    iexact HO
  iintro ⟨HO, Hz, Hb, Hw'⟩
  iapply (wp_load_slice 𝒱₀ (c : Thread nD τ) (m := wbM) (r := slR 0) (hr := fun _ => rfl)) $$ Hb
  iintro Hb
  iapply (wp_load_slice 𝒱₀ (c : Thread nD τ) (m := wcM) (r := slR 0) (hr := fun _ => rfl)) $$ Hc
  iintro Hc
  iapply (wp_store_slice 𝒱₀ (c : Thread nD τ) (m := wcM) (r := slR 0) (hr := fun _ => rfl)) $$ Hc
  iintro Hc
  iapply (wp_get W c 4 0 _ rfl _ rfl _ rfl) $$ [Hw Hb Hz]
  · isplitl [Hw]; · iexact Hw
    isplitl [Hb]; · iexists _; iexact Hb
    iexact Hz
  iintro HF
  iapply (wp_load_all 𝒱₀ (c : Thread nD τ) (m := xbM) z2) $$ Hx
  iintro Hx
  iapply (wp_load_slice 𝒱₀ (c : Thread nD τ) (m := wcM) (r := slR 0) (hr := fun _ => rfl)) $$ Hc
  iintro Hc
  iapply (wp_load_slice 𝒱₀ (c : Thread nD τ) (m := yM) (r := yR 2) (hr := fun _ => rfl)) $$ Hy
  iintro Hy
  iapply (wp_store_slice 𝒱₀ (c : Thread nD τ) (m := yM) (r := yR 2) (hr := fun _ => rfl)) $$ Hy
  iintro Hy
  iapply Hk
  isplitl [HO]; · iexact HO
  isplitl [HF]; · iexact HF
  isplitl [Hw']; · iexact Hw'
  isplitl [Hc]; · iexists _; iexact Hc
  isplitl [Hx]; · iexact Hx
  iexact Hy

/-- Block 3 of the product. -/
theorem wp_part6 {kk : F .f32 → Prog (TpuEff nD τ sig (Elt F) Λ₀ .tc) α} :
    iprop(levAts L lv ∗ ow c 6 ∗ wFl W c 3 1 ∗ owns (c : Thread nD τ) (wS 5) fullShare (wblk (W c) 5) ∗ (∃ Z, owns (c : Thread nD τ) (wcS 1) fullShare Z)
        ∗ owns (c : Thread nD τ) xbM fullShare (xbf (X c)) ∗ (∃ Z, owns (c : Thread nD τ) (yS 3) fullShare Z))
      ⊢ iprop((iprop(ow c 6 ∗ wFl W c 5 1 ∗ owns (c : Thread nD τ) (wS 3) fullShare (wblk (W c) 3) ∗ (∃ Z, owns (c : Thread nD τ) (wcS 1) fullShare Z)
            ∗ owns (c : Thread nD τ) xbM fullShare (xbf (X c)) ∗ owns (c : Thread nD τ) (yS 3) fullShare (yblk (X c) (W c) 3))
            -∗ wp frame (wpE (defs₀ (F := F)) 𝒱₀ (c : Thread nD τ) none) Set.univ (kk (am (X c) (W c) 3)) Q)
          -∗ wp frame (wpE (defs₀ (F := F)) 𝒱₀ (c : Thread nD τ) none) Set.univ (k0_part6 xM (Memref.isWhole_whole _) wM (Memref.isWhole_whole _) oM (Memref.isWhole_whole _) xbM (Memref.isWhole_whole _) wbM (Memref.isWhole_whole _) wcM (Memref.isWhole_whole _) yM (Memref.isWhole_whole _) qM (Memref.isWhole_whole _) qiM (Memref.isWhole_whole _) amM (Memref.isWhole_whole _) arM (Memref.isWhole_whole _) cc0_scratch8 cc0_scratch9 cc0_scratch10 cc0_scratch11 cc0_scratch12 (am (X c) (W c) 2) >>= kk) Q) := by
  rw [k0_part6_eq_skeleton]
  unfold k0_part6_skel
  simp only [Prog.lift, Prog.bind_op, Prog.bind_ret, Prog.pure_eq_ret]
  iintro ⟨#Hl, HO, HF, Hw, ⟨%Zc, Hc⟩, Hx, ⟨%Zy, Hy⟩⟩ Hk
  iapply (wp_got W c 3 1 6 (by decide) _ rfl (by rfl)) $$ [HF HO]
  · isplitl [HF]; · iexact HF
    isplitr; · iexact Hl
    iexact HO
  iintro ⟨HO, Hz, Hb, Hw'⟩
  iapply (wp_load_slice 𝒱₀ (c : Thread nD τ) (m := wbM) (r := slR 1) (hr := fun _ => rfl)) $$ Hb
  iintro Hb
  iapply (wp_load_slice 𝒱₀ (c : Thread nD τ) (m := wcM) (r := slR 1) (hr := fun _ => rfl)) $$ Hc
  iintro Hc
  iapply (wp_store_slice 𝒱₀ (c : Thread nD τ) (m := wcM) (r := slR 1) (hr := fun _ => rfl)) $$ Hc
  iintro Hc
  iapply (wp_get W c 5 1 _ rfl _ rfl _ rfl) $$ [Hw Hb Hz]
  · isplitl [Hw]; · iexact Hw
    isplitl [Hb]; · iexists _; iexact Hb
    iexact Hz
  iintro HF
  iapply (wp_load_all 𝒱₀ (c : Thread nD τ) (m := xbM) z2) $$ Hx
  iintro Hx
  iapply (wp_load_slice 𝒱₀ (c : Thread nD τ) (m := wcM) (r := slR 1) (hr := fun _ => rfl)) $$ Hc
  iintro Hc
  iapply (wp_load_slice 𝒱₀ (c : Thread nD τ) (m := yM) (r := yR 3) (hr := fun _ => rfl)) $$ Hy
  iintro Hy
  iapply (wp_store_slice 𝒱₀ (c : Thread nD τ) (m := yM) (r := yR 3) (hr := fun _ => rfl)) $$ Hy
  iintro Hy
  iapply Hk
  isplitl [HO]; · iexact HO
  isplitl [HF]; · iexact HF
  isplitl [Hw']; · iexact Hw'
  isplitl [Hc]; · iexists _; iexact Hc
  isplitl [Hx]; · iexact Hx
  iexact Hy

/-- Block 4 of the product. -/
theorem wp_part7 {kk : F .f32 → Prog (TpuEff nD τ sig (Elt F) Λ₀ .tc) α} :
    iprop(levAts L lv ∗ ow c 6 ∗ wFl W c 4 0 ∗ owns (c : Thread nD τ) (wS 6) fullShare (wblk (W c) 6) ∗ (∃ Z, owns (c : Thread nD τ) (wcS 0) fullShare Z)
        ∗ owns (c : Thread nD τ) xbM fullShare (xbf (X c)) ∗ (∃ Z, owns (c : Thread nD τ) (yS 4) fullShare Z))
      ⊢ iprop((iprop(ow c 6 ∗ wFl W c 6 0 ∗ owns (c : Thread nD τ) (wS 4) fullShare (wblk (W c) 4) ∗ (∃ Z, owns (c : Thread nD τ) (wcS 0) fullShare Z)
            ∗ owns (c : Thread nD τ) xbM fullShare (xbf (X c)) ∗ owns (c : Thread nD τ) (yS 4) fullShare (yblk (X c) (W c) 4))
            -∗ wp frame (wpE (defs₀ (F := F)) 𝒱₀ (c : Thread nD τ) none) Set.univ (kk (am (X c) (W c) 4)) Q)
          -∗ wp frame (wpE (defs₀ (F := F)) 𝒱₀ (c : Thread nD τ) none) Set.univ (k0_part7 xM (Memref.isWhole_whole _) wM (Memref.isWhole_whole _) oM (Memref.isWhole_whole _) xbM (Memref.isWhole_whole _) wbM (Memref.isWhole_whole _) wcM (Memref.isWhole_whole _) yM (Memref.isWhole_whole _) qM (Memref.isWhole_whole _) qiM (Memref.isWhole_whole _) amM (Memref.isWhole_whole _) arM (Memref.isWhole_whole _) cc0_scratch8 cc0_scratch9 cc0_scratch10 cc0_scratch11 cc0_scratch12 (am (X c) (W c) 3) >>= kk) Q) := by
  rw [k0_part7_eq_skeleton]
  unfold k0_part7_skel
  simp only [Prog.lift, Prog.bind_op, Prog.bind_ret, Prog.pure_eq_ret]
  iintro ⟨#Hl, HO, HF, Hw, ⟨%Zc, Hc⟩, Hx, ⟨%Zy, Hy⟩⟩ Hk
  iapply (wp_got W c 4 0 6 (by decide) _ rfl (by rfl)) $$ [HF HO]
  · isplitl [HF]; · iexact HF
    isplitr; · iexact Hl
    iexact HO
  iintro ⟨HO, Hz, Hb, Hw'⟩
  iapply (wp_load_slice 𝒱₀ (c : Thread nD τ) (m := wbM) (r := slR 0) (hr := fun _ => rfl)) $$ Hb
  iintro Hb
  iapply (wp_load_slice 𝒱₀ (c : Thread nD τ) (m := wcM) (r := slR 0) (hr := fun _ => rfl)) $$ Hc
  iintro Hc
  iapply (wp_store_slice 𝒱₀ (c : Thread nD τ) (m := wcM) (r := slR 0) (hr := fun _ => rfl)) $$ Hc
  iintro Hc
  iapply (wp_get W c 6 0 _ rfl _ rfl _ rfl) $$ [Hw Hb Hz]
  · isplitl [Hw]; · iexact Hw
    isplitl [Hb]; · iexists _; iexact Hb
    iexact Hz
  iintro HF
  iapply (wp_load_all 𝒱₀ (c : Thread nD τ) (m := xbM) z2) $$ Hx
  iintro Hx
  iapply (wp_load_slice 𝒱₀ (c : Thread nD τ) (m := wcM) (r := slR 0) (hr := fun _ => rfl)) $$ Hc
  iintro Hc
  iapply (wp_load_slice 𝒱₀ (c : Thread nD τ) (m := yM) (r := yR 4) (hr := fun _ => rfl)) $$ Hy
  iintro Hy
  iapply (wp_store_slice 𝒱₀ (c : Thread nD τ) (m := yM) (r := yR 4) (hr := fun _ => rfl)) $$ Hy
  iintro Hy
  iapply Hk
  isplitl [HO]; · iexact HO
  isplitl [HF]; · iexact HF
  isplitl [Hw']; · iexact Hw'
  isplitl [Hc]; · iexists _; iexact Hc
  isplitl [Hx]; · iexact Hx
  iexact Hy

/-- Block 5 of the product. -/
theorem wp_part8 {kk : F .f32 → Prog (TpuEff nD τ sig (Elt F) Λ₀ .tc) α} :
    iprop(levAts L lv ∗ ow c 6 ∗ wFl W c 5 1 ∗ owns (c : Thread nD τ) (wS 7) fullShare (wblk (W c) 7) ∗ (∃ Z, owns (c : Thread nD τ) (wcS 1) fullShare Z)
        ∗ owns (c : Thread nD τ) xbM fullShare (xbf (X c)) ∗ (∃ Z, owns (c : Thread nD τ) (yS 5) fullShare Z))
      ⊢ iprop((iprop(ow c 6 ∗ wFl W c 7 1 ∗ owns (c : Thread nD τ) (wS 5) fullShare (wblk (W c) 5) ∗ (∃ Z, owns (c : Thread nD τ) (wcS 1) fullShare Z)
            ∗ owns (c : Thread nD τ) xbM fullShare (xbf (X c)) ∗ owns (c : Thread nD τ) (yS 5) fullShare (yblk (X c) (W c) 5))
            -∗ wp frame (wpE (defs₀ (F := F)) 𝒱₀ (c : Thread nD τ) none) Set.univ (kk (am (X c) (W c) 5)) Q)
          -∗ wp frame (wpE (defs₀ (F := F)) 𝒱₀ (c : Thread nD τ) none) Set.univ (k0_part8 xM (Memref.isWhole_whole _) wM (Memref.isWhole_whole _) oM (Memref.isWhole_whole _) xbM (Memref.isWhole_whole _) wbM (Memref.isWhole_whole _) wcM (Memref.isWhole_whole _) yM (Memref.isWhole_whole _) qM (Memref.isWhole_whole _) qiM (Memref.isWhole_whole _) amM (Memref.isWhole_whole _) arM (Memref.isWhole_whole _) cc0_scratch8 cc0_scratch9 cc0_scratch10 cc0_scratch11 cc0_scratch12 (am (X c) (W c) 4) >>= kk) Q) := by
  rw [k0_part8_eq_skeleton]
  unfold k0_part8_skel
  simp only [Prog.lift, Prog.bind_op, Prog.bind_ret, Prog.pure_eq_ret]
  iintro ⟨#Hl, HO, HF, Hw, ⟨%Zc, Hc⟩, Hx, ⟨%Zy, Hy⟩⟩ Hk
  iapply (wp_got W c 5 1 6 (by decide) _ rfl (by rfl)) $$ [HF HO]
  · isplitl [HF]; · iexact HF
    isplitr; · iexact Hl
    iexact HO
  iintro ⟨HO, Hz, Hb, Hw'⟩
  iapply (wp_load_slice 𝒱₀ (c : Thread nD τ) (m := wbM) (r := slR 1) (hr := fun _ => rfl)) $$ Hb
  iintro Hb
  iapply (wp_load_slice 𝒱₀ (c : Thread nD τ) (m := wcM) (r := slR 1) (hr := fun _ => rfl)) $$ Hc
  iintro Hc
  iapply (wp_store_slice 𝒱₀ (c : Thread nD τ) (m := wcM) (r := slR 1) (hr := fun _ => rfl)) $$ Hc
  iintro Hc
  iapply (wp_get W c 7 1 _ rfl _ rfl _ rfl) $$ [Hw Hb Hz]
  · isplitl [Hw]; · iexact Hw
    isplitl [Hb]; · iexists _; iexact Hb
    iexact Hz
  iintro HF
  iapply (wp_load_all 𝒱₀ (c : Thread nD τ) (m := xbM) z2) $$ Hx
  iintro Hx
  iapply (wp_load_slice 𝒱₀ (c : Thread nD τ) (m := wcM) (r := slR 1) (hr := fun _ => rfl)) $$ Hc
  iintro Hc
  iapply (wp_load_slice 𝒱₀ (c : Thread nD τ) (m := yM) (r := yR 5) (hr := fun _ => rfl)) $$ Hy
  iintro Hy
  iapply (wp_store_slice 𝒱₀ (c : Thread nD τ) (m := yM) (r := yR 5) (hr := fun _ => rfl)) $$ Hy
  iintro Hy
  iapply Hk
  isplitl [HO]; · iexact HO
  isplitl [HF]; · iexact HF
  isplitl [Hw']; · iexact Hw'
  isplitl [Hc]; · iexists _; iexact Hc
  isplitl [Hx]; · iexact Hx
  iexact Hy

end Cert.KernelIdeal.Prf

end
-- ==== Proof.KernelIdeal.Places.lean ====
/- Where the printed words and offsets lead. -/
module

public import proofs.«01_k».proof.Proof.KernelIdeal.Steps

@[expose] public section

noncomputable section

namespace Cert.KernelIdeal.Prf

open Cert.KernelIdeal Cert.KernelIdeal.Gen Cert.Own
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → S1024x4096.Idx → Elt F .f32) (W : Dev nD → S4096x2048.Idx → Elt F .f32)
variable (c : Dev nD) {α : Type} {Q : α → sProp (MT nD τ sig Unit (Elt F) ℕ UU ℕ)}

/-- A device's place as a word. -/
abbrev place (c : Dev nD) : BitVec 32 := Scalar.remsi (Scalar.divsi (Dev.word c) 1#32) 4#32

theorem dev1_eq (c : Dev nD) : (⟨k0_dev1 c, k0_dev1_lt c⟩ : Dev nD) = tgt 0 c := by revert c; decide
theorem dev2_eq (c : Dev nD) : (⟨k0_dev2 c, k0_dev2_lt c⟩ : Dev nD) = tgt 1 c := by revert c; decide
theorem dev3_eq (c : Dev nD) : (⟨k0_dev3 c, k0_dev3_lt c⟩ : Dev nD) = tgt 2 c := by revert c; decide
theorem dev4_eq (c : Dev nD) : (⟨k0_dev4 c, k0_dev4_lt c⟩ : Dev nD) = tgt 0 c := by revert c; decide
theorem dev5_eq (c : Dev nD) : (⟨k0_dev5 c, k0_dev5_lt c⟩ : Dev nD) = tgt 1 c := by revert c; decide
theorem dev6_eq (c : Dev nD) : (⟨k0_dev6 c, k0_dev6_lt c⟩ : Dev nD) = tgt 2 c := by revert c; decide
theorem dev7_eq (c : Dev nD) : (⟨k0_dev7 c, k0_dev7_lt c⟩ : Dev nD) = tgt 0 c := by revert c; decide
theorem dev8_eq (c : Dev nD) : (⟨k0_dev8 c, k0_dev8_lt c⟩ : Dev nD) = tgt 1 c := by revert c; decide
theorem dev9_eq (c : Dev nD) : (⟨k0_dev9 c, k0_dev9_lt c⟩ : Dev nD) = tgt 2 c := by revert c; decide
theorem oR_fits (j : Fin 4) : ∀ a, (![1024 * j.val, 0] : Fin 2 → ℕ) a + S1024x512.size a ≤ S4096x512.size a :=
  fun a => by have := j.isLt; fin_cases a <;> simp <;> omega
theorem off1_0 (c : Dev nD) : k0_off1 c 1#32 = ![(tgt 0 c).val, 0, 0] := by revert c; decide
theorem off2_0 (c : Dev nD) : k0_off2 c 1#32 = ![1024 * (src 0 c).val, 0] := by revert c; decide
theorem off1_1 (c : Dev nD) : k0_off1 c 2#32 = ![(tgt 1 c).val, 0, 0] := by revert c; decide
theorem off2_1 (c : Dev nD) : k0_off2 c 2#32 = ![1024 * (src 1 c).val, 0] := by revert c; decide
theorem off1_2 (c : Dev nD) : k0_off1 c 3#32 = ![(tgt 2 c).val, 0, 0] := by revert c; decide
theorem off2_2 (c : Dev nD) : k0_off2 c 3#32 = ![1024 * (src 2 c).val, 0] := by revert c; decide

end Cert.KernelIdeal.Prf

end
-- ==== Proof.KernelIdeal.Head.lean ====
/- The kernel up to the exchange of maxima, part by part. -/
module

public import proofs.«01_k».proof.Proof.KernelIdeal.Places
public import proofs.«01_k».proof.Proof.KernelIdeal.Blocks

@[expose] public section

noncomputable section

namespace Cert.KernelIdeal.Prf

open Cert.KernelIdeal Cert.KernelIdeal.Gen Cert.Own
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → S1024x4096.Idx → Elt F .f32) (W : Dev nD → S4096x2048.Idx → Elt F .f32)
variable (c : Dev nD) {α : Type} {Q : α → sProp (MT nD τ sig Unit (Elt F) ℕ UU ℕ)}

/-- The first two blocks of the weights fetched, and the first signal. -/
theorem wp_part1 (K : Dev nD × Fin 13 → ℕ) {kk : (Σ' (d0 : Dev nD) (v2 : BitVec 32) (v13 : Sems sig S_) (v27 : BitVec 32) (c4_i32_20 : BitVec 32), BitVec 1) → Prog (TpuEff nD τ sig (Elt F) Λ₀ .tc) α} :
    iprop(invs X W K ∗ ow c 9 ∗ owns (c : Thread nD τ) (wS 0) fullShare (wblk (W c) 0) ∗ owns (c : Thread nD τ) (wS 1) fullShare (wblk (W c) 1) ∗ (∃ Z, owns (c : Thread nD τ) (wbS 0) fullShare Z) ∗ (∃ Z, owns (c : Thread nD τ) (wbS 1) fullShare Z) ∗ semVal (dC (wSem 0) c) 0 ∗ semVal (dC (wSem 1) c) 0 ∗ dutyTok ER (barC (tgt 0 c)) 0 2 ∗ (∃ Z, owns (c : Thread nD τ) (arS 2) fullShare Z) ∗ (∃ Z, owns (c : Thread nD τ) (qiS 2) fullShare Z))
      ⊢ iprop((iprop(ow c 8 ∗ wFl W c 0 0 ∗ wFl W c 1 1)
            -∗ wp frame (wpE (defs₀ (F := F)) 𝒱₀ (c : Thread nD τ) none) Set.univ (kk ⟨c, place c, SemArray.scalar (sig.barrier 0 rfl), Scalar.addi (place c) 2#32, 4#32, Scalar.cmpi .eq 4#32 0#32⟩) Q)
          -∗ wp frame (wpE (defs₀ (F := F)) 𝒱₀ (c : Thread nD τ) none) Set.univ (k0_part1 xM (Memref.isWhole_whole _) wM (Memref.isWhole_whole _) oM (Memref.isWhole_whole _) xbM (Memref.isWhole_whole _) wbM (Memref.isWhole_whole _) wcM (Memref.isWhole_whole _) yM (Memref.isWhole_whole _) qM (Memref.isWhole_whole _) qiM (Memref.isWhole_whole _) amM (Memref.isWhole_whole _) arM (Memref.isWhole_whole _) cc0_scratch8 cc0_scratch9 cc0_scratch10 cc0_scratch11 cc0_scratch12 >>= kk) Q) := by
  rw [k0_part1_eq_skeleton]
  unfold k0_part1_skel
  simp only [semSignalWord, semWaitWord, Prog.lift, Prog.bind_op, Prog.bind_ret, Prog.pure_eq_ret, wp_deviceId]
  iintro ⟨#HI, HO, Hw0, Hw1, ⟨%ZHb0, Hb0⟩, ⟨%ZHb1, Hb1⟩, Hz0, Hz1, Ht0, ⟨%ZHa0, Ha0⟩, ⟨%ZHq0, Hq0⟩⟩ Hk
  iapply (wp_get W c 0 0 _ rfl _ rfl _ rfl) $$ [Hw0 Hb0 Hz0]
  · isplitl [Hw0]; · iexact Hw0
    isplitl [Hb0]; · iexists _; iexact Hb0
    iexact Hz0
  iintro HF0
  iapply (wp_get W c 1 1 _ rfl _ rfl _ rfl) $$ [Hw1 Hb1 Hz1]
  · isplitl [Hw1]; · iexact Hw1
    isplitl [Hb1]; · iexists _; iexact Hb1
    iexact Hz1
  iintro HF1
  iapply (wp_sig X W K c 0 8 rfl rfl _ (dev1_eq c)) $$ [HO Ht0 Ha0 Hq0]
  · isplitr; · iexact HI
    isplitl [HO]; · iexact HO
    isplitl [Ht0]; · iexact Ht0
    isplitl [Ha0]; · iexists _; iexact Ha0
    iexists _; iexact Hq0
  iintro HO
  iapply Hk
  isplitl [HO]; · iexact HO
  isplitl [HF0]; · iexact HF0
  iexact HF1

/-- The other two signals, and the operand rounded. -/
theorem wp_part2 (K : Dev nD × Fin 13 → ℕ) (v2 v27 w4 : BitVec 32) (v28 : BitVec 1) {kk : PUnit → Prog (TpuEff nD τ sig (Elt F) Λ₀ .tc) α} :
    iprop(invs X W K ∗ ow c 8 ∗ dutyTok ER (barC (tgt 1 c)) 0 1 ∗ (∃ Z, owns (c : Thread nD τ) (arS 1) fullShare Z) ∗ (∃ Z, owns (c : Thread nD τ) (qiS 1) fullShare Z) ∗ dutyTok ER (barC (tgt 2 c)) 0 0 ∗ (∃ Z, owns (c : Thread nD τ) (arS 0) fullShare Z) ∗ (∃ Z, owns (c : Thread nD τ) (qiS 0) fullShare Z) ∗ owns (c : Thread nD τ) xM fullShare (X c) ∗ (∃ Z, owns (c : Thread nD τ) xbM fullShare Z))
      ⊢ iprop((iprop(ow c 6 ∗ owns (c : Thread nD τ) xM fullShare (X c) ∗ owns (c : Thread nD τ) xbM fullShare (xbf (X c)))
            -∗ wp frame (wpE (defs₀ (F := F)) 𝒱₀ (c : Thread nD τ) none) Set.univ (kk ⟨⟩) Q)
          -∗ wp frame (wpE (defs₀ (F := F)) 𝒱₀ (c : Thread nD τ) none) Set.univ (k0_part2 xM (Memref.isWhole_whole _) wM (Memref.isWhole_whole _) oM (Memref.isWhole_whole _) xbM (Memref.isWhole_whole _) wbM (Memref.isWhole_whole _) wcM (Memref.isWhole_whole _) yM (Memref.isWhole_whole _) qM (Memref.isWhole_whole _) qiM (Memref.isWhole_whole _) amM (Memref.isWhole_whole _) arM (Memref.isWhole_whole _) cc0_scratch8 cc0_scratch9 cc0_scratch10 cc0_scratch11 cc0_scratch12 c v2 (SemArray.scalar (sig.barrier 0 rfl)) v27 w4 v28 >>= kk) Q) := by
  rw [k0_part2_eq_skeleton]
  unfold k0_part2_skel
  simp only [semSignalWord, semWaitWord, Prog.lift, Prog.bind_op, Prog.bind_ret, Prog.pure_eq_ret, wp_deviceId]
  iintro ⟨#HI, HO, Ht1, ⟨%ZHa1, Ha1⟩, ⟨%ZHq1, Hq1⟩, Ht2, ⟨%ZHa2, Ha2⟩, ⟨%ZHq2, Hq2⟩, Hx, ⟨%ZHxb, Hxb⟩⟩ Hk
  iapply (wp_sig X W K c 1 7 rfl rfl _ (dev2_eq c)) $$ [HO Ht1 Ha1 Hq1]
  · isplitr; · iexact HI
    isplitl [HO]; · iexact HO
    isplitl [Ht1]; · iexact Ht1
    isplitl [Ha1]; · iexists _; iexact Ha1
    iexists _; iexact Hq1
  iintro HO
  iapply (wp_sig X W K c 2 6 rfl rfl _ (dev3_eq c)) $$ [HO Ht2 Ha2 Hq2]
  · isplitr; · iexact HI
    isplitl [HO]; · iexact HO
    isplitl [Ht2]; · iexact Ht2
    isplitl [Ha2]; · iexists _; iexact Ha2
    iexists _; iexact Hq2
  iintro HO
  iapply (wp_load_all 𝒱₀ (c : Thread nD τ) (m := xM) z2) $$ Hx
  iintro Hx
  iapply (wp_load_all 𝒱₀ (c : Thread nD τ) (m := xbM) z2) $$ Hxb
  iintro Hxb
  iapply (wp_store_all 𝒱₀ (c : Thread nD τ) (m := xbM) z2) $$ Hxb
  iintro Hxb
  iapply Hk
  isplitl [HO]; · iexact HO
  isplitl [Hx]; · iexact Hx
  iexact Hxb

/-- Block 6 of the product; the last block of the weights awaited. -/
theorem wp_part9 {kk : (Σ' (v256 : F .f32), FVec F S4096x256 .f32) → Prog (TpuEff nD τ sig (Elt F) Λ₀ .tc) α} :
    iprop(levAts L lv ∗ ow c 6 ∗ wFl W c 6 0 ∗ wFl W c 7 1 ∗ (∃ Z, owns (c : Thread nD τ) (wcS 0) fullShare Z) ∗ owns (c : Thread nD τ) xbM fullShare (xbf (X c)) ∗ (∃ Z, owns (c : Thread nD τ) (yS 6) fullShare Z))
      ⊢ iprop((iprop(ow c 6 ∗ semVal (dC (wSem 0) c) 0 ∗ (∃ Z, owns (c : Thread nD τ) (wbS 0) fullShare Z) ∗ owns (c : Thread nD τ) (wS 6) fullShare (wblk (W c) 6) ∗ semVal (dC (wSem 1) c) 0 ∗ (∃ Z, owns (c : Thread nD τ) (wbS 1) fullShare Z) ∗ owns (c : Thread nD τ) (wS 7) fullShare (wblk (W c) 7) ∗ (∃ Z, owns (c : Thread nD τ) (wcS 0) fullShare Z) ∗ owns (c : Thread nD τ) xbM fullShare (xbf (X c)) ∗ owns (c : Thread nD τ) (yS 6) fullShare (yblk (X c) (W c) 6))
            -∗ wp frame (wpE (defs₀ (F := F)) 𝒱₀ (c : Thread nD τ) none) Set.univ (kk ⟨(am (X c) (W c) 6), k0_pay30 (wslot (W c) 7)⟩) Q)
          -∗ wp frame (wpE (defs₀ (F := F)) 𝒱₀ (c : Thread nD τ) none) Set.univ (k0_part9 xM (Memref.isWhole_whole _) wM (Memref.isWhole_whole _) oM (Memref.isWhole_whole _) xbM (Memref.isWhole_whole _) wbM (Memref.isWhole_whole _) wcM (Memref.isWhole_whole _) yM (Memref.isWhole_whole _) qM (Memref.isWhole_whole _) qiM (Memref.isWhole_whole _) amM (Memref.isWhole_whole _) arM (Memref.isWhole_whole _) cc0_scratch8 cc0_scratch9 cc0_scratch10 cc0_scratch11 cc0_scratch12 (am (X c) (W c) 5) >>= kk) Q) := by
  rw [k0_part9_eq_skeleton]
  unfold k0_part9_skel
  simp only [semSignalWord, semWaitWord, Prog.lift, Prog.bind_op, Prog.bind_ret, Prog.pure_eq_ret, wp_deviceId]
  iintro ⟨#Hl, HO, HF, HF7, ⟨%ZHc0, Hc0⟩, Hx, ⟨%ZHy, Hy⟩⟩ Hk
  iapply (wp_got W c 6 0 6 (by decide) _ rfl (by rfl)) $$ [HF HO]
  · isplitl [HF]; · iexact HF
    isplitr; · iexact Hl
    iexact HO
  iintro ⟨HO, Hz0, Hb0, Hw6⟩
  iapply (wp_load_slice 𝒱₀ (c : Thread nD τ) (m := wbM) (r := slR 0) (hr := fun _ => rfl)) $$ Hb0
  iintro Hb0
  iapply (wp_load_slice 𝒱₀ (c : Thread nD τ) (m := wcM) (r := slR 0) (hr := fun _ => rfl)) $$ Hc0
  iintro Hc0
  iapply (wp_store_slice 𝒱₀ (c : Thread nD τ) (m := wcM) (r := slR 0) (hr := fun _ => rfl)) $$ Hc0
  iintro Hc0
  iapply (wp_load_all 𝒱₀ (c : Thread nD τ) (m := xbM) z2) $$ Hx
  iintro Hx
  iapply (wp_load_slice 𝒱₀ (c : Thread nD τ) (m := wcM) (r := slR 0) (hr := fun _ => rfl)) $$ Hc0
  iintro Hc0
  iapply (wp_load_slice 𝒱₀ (c : Thread nD τ) (m := yM) (r := yR 6) (hr := fun _ => rfl)) $$ Hy
  iintro Hy
  iapply (wp_store_slice 𝒱₀ (c : Thread nD τ) (m := yM) (r := yR 6) (hr := fun _ => rfl)) $$ Hy
  iintro Hy
  iapply (wp_got W c 7 1 6 (by decide) _ rfl (by rfl)) $$ [HF7 HO]
  · isplitl [HF7]; · iexact HF7
    isplitr; · iexact Hl
    iexact HO
  iintro ⟨HO, Hz, Hb, Hw⟩
  iapply (wp_load_slice 𝒱₀ (c : Thread nD τ) (m := wbM) (r := slR 1) (hr := fun _ => rfl)) $$ Hb
  iintro Hb
  iapply Hk
  isplitl [HO]; · iexact HO
  isplitl [Hz0]; · iexact Hz0
  isplitl [Hb0]; · iexists _; iexact Hb0
  isplitl [Hw6]; · iexact Hw6
  isplitl [Hz]; · iexact Hz
  isplitl [Hb]; · iexists _; iexact Hb
  isplitl [Hw]; · iexact Hw
  isplitl [Hc0]; · iexists _; iexact Hc0
  isplitl [Hx]; · iexact Hx
  iexact Hy

/-- Block 7 of the product; the handshake's wait; the maximum laid out to be sent. -/
theorem wp_part10 (K : Dev nD × Fin 13 → ℕ) (v2 : BitVec 32) {kk : (Σ' (v280 : F .f32), BitVec 32) → Prog (TpuEff nD τ sig (Elt F) Λ₀ .tc) α} :
    iprop(invs X W K ∗ levAts L lv ∗ ow c 6 ∗ (∃ Z, owns (c : Thread nD τ) (wcS 1) fullShare Z) ∗ owns (c : Thread nD τ) xbM fullShare (xbf (X c)) ∗ (∃ Z, owns (c : Thread nD τ) (yS 7) fullShare Z) ∗ cred (tallyAt (barC c) () 3) ∗ atPos ER (barC c) 0 ∅ 0 ∗ (∃ Z, owns (c : Thread nD τ) amM fullShare Z))
      ⊢ iprop((∀ w, iprop(ow c 6 ∗ (∃ Z, owns (c : Thread nD τ) (wcS 1) fullShare Z) ∗ owns (c : Thread nD τ) xbM fullShare (xbf (X c)) ∗ owns (c : Thread nD τ) (yS 7) fullShare (yblk (X c) (W c) 7) ∗ semVal (barC c) 0 ∗ barPay c 0 ∗ barPay c 1 ∗ barPay c 2 ∗ owns (c : Thread nD τ) amM fullShare (amb (X c) (W c)))
            -∗ wp frame (wpE (defs₀ (F := F)) 𝒱₀ (c : Thread nD τ) none) Set.univ (kk ⟨(am (X c) (W c) 7), w⟩) Q)
          -∗ wp frame (wpE (defs₀ (F := F)) 𝒱₀ (c : Thread nD τ) none) Set.univ (k0_part10 xM (Memref.isWhole_whole _) wM (Memref.isWhole_whole _) oM (Memref.isWhole_whole _) xbM (Memref.isWhole_whole _) wbM (Memref.isWhole_whole _) wcM (Memref.isWhole_whole _) yM (Memref.isWhole_whole _) qM (Memref.isWhole_whole _) qiM (Memref.isWhole_whole _) amM (Memref.isWhole_whole _) arM (Memref.isWhole_whole _) cc0_scratch8 cc0_scratch9 cc0_scratch10 cc0_scratch11 cc0_scratch12 v2 (SemArray.scalar (sig.barrier 0 rfl)) (am (X c) (W c) 6) (k0_pay30 (wslot (W c) 7)) >>= kk) Q) := by
  rw [k0_part10_eq_skeleton]
  unfold k0_part10_skel
  simp only [semSignalWord, semWaitWord, Prog.lift, Prog.bind_op, Prog.bind_ret, Prog.pure_eq_ret, wp_deviceId]
  iintro ⟨#HI, #Hl, HO, ⟨%ZHc, Hc⟩, Hx, ⟨%ZHy, Hy⟩, Hcr, Hat, ⟨%ZHm, Hm⟩⟩ Hk
  iapply (wp_load_slice 𝒱₀ (c : Thread nD τ) (m := wcM) (r := slR 1) (hr := fun _ => rfl)) $$ Hc
  iintro Hc
  iapply (wp_store_slice 𝒱₀ (c : Thread nD τ) (m := wcM) (r := slR 1) (hr := fun _ => rfl)) $$ Hc
  iintro Hc
  iapply (wp_load_all 𝒱₀ (c : Thread nD τ) (m := xbM) z2) $$ Hx
  iintro Hx
  iapply (wp_load_slice 𝒱₀ (c : Thread nD τ) (m := wcM) (r := slR 1) (hr := fun _ => rfl)) $$ Hc
  iintro Hc
  iapply (wp_load_slice 𝒱₀ (c : Thread nD τ) (m := yM) (r := yR 7) (hr := fun _ => rfl)) $$ Hy
  iintro Hy
  iapply (wp_store_slice 𝒱₀ (c : Thread nD τ) (m := yM) (r := yR 7) (hr := fun _ => rfl)) $$ Hy
  iintro Hy
  iapply (wp_bar X W K c 6 (by decide)) $$ [Hcr HO Hat]
  · isplitr; · iexact HI
    isplitr; · iexact Hl
    isplitl [Hcr]; · iexact Hcr
    isplitl [HO]; · iexact HO
    iexact Hat
  iintro ⟨HO, Hz, Hb0, Hb1, Hb2⟩
  iapply (wp_load_all 𝒱₀ (c : Thread nD τ) (m := amM) z2) $$ Hm
  iintro Hm
  iapply (wp_store_all 𝒱₀ (c : Thread nD τ) (m := amM) z2) $$ Hm
  iintro Hm
  rw [show k0_pay34 (am (X c) (W c) 6) (xbf (X c)) (k0_pay31 (k0_pay30 (wslot (W c) 7))) = am (X c) (W c) 7 from rfl]
  iapply Hk
  isplitl [HO]; · iexact HO
  isplitl [Hc]; · iexists _; iexact Hc
  isplitl [Hx]; · iexact Hx
  isplitl [Hy]; · iexact Hy
  isplitl [Hz]; · iexact Hz
  isplitl [Hb0]; · iexact Hb0
  isplitl [Hb1]; · iexact Hb1
  isplitl [Hb2]; · iexact Hb2
  iexact Hm

end Cert.KernelIdeal.Prf

end
-- ==== Proof.KernelIdeal.Maxima.lean ====
/- The exchange of maxima and the quantization, part by part. -/
module

public import proofs.«01_k».proof.Proof.KernelIdeal.Places
public import proofs.«01_k».proof.Proof.KernelIdeal.Blocks

@[expose] public section

noncomputable section

namespace Cert.KernelIdeal.Prf

open Cert.KernelIdeal Cert.KernelIdeal.Gen Cert.Own
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → S1024x4096.Idx → Elt F .f32) (W : Dev nD → S4096x2048.Idx → Elt F .f32)
variable (c : Dev nD) {α : Type} {Q : α → sProp (MT nD τ sig Unit (Elt F) ℕ UU ℕ)}

/-- The maximum sent one and two places on. -/
theorem wp_part11 (K : Dev nD × Fin 13 → ℕ) (v2 v295 : BitVec 32) {kk : (Σ' (v314 : BitVec 32) (v325 : BitVec 32) (v326 : BitVec 32) (v327 : BitVec 1), BitVec 32) → Prog (TpuEff nD τ sig (Elt F) Λ₀ .tc) α} :
    iprop(invs X W K ∗ ow c 6 ∗ owns (c : Thread nD τ) amM (third 0) (amb (X c) (W c)) ∗ (∃ Z, owns (tgt 0 c : Thread nD τ) (arS 0) fullShare Z) ∗ dutyTok ER (dC (asSem 0) c) 0 0 ∗ dutyTok ER (dC (arSem 0) (tgt 0 c)) 0 0 ∗ owns (c : Thread nD τ) amM (third 1) (amb (X c) (W c)) ∗ (∃ Z, owns (tgt 1 c : Thread nD τ) (arS 1) fullShare Z) ∗ dutyTok ER (dC (asSem 1) c) 0 0 ∗ dutyTok ER (dC (arSem 1) (tgt 1 c)) 0 0)
      ⊢ iprop((∀ w, iprop(ow c 4 ∗ cred (tallyAt (dC (asSem 0) c) () NA) ∗ cred (tallyAt (dC (asSem 1) c) () NA))
            -∗ wp frame (wpE (defs₀ (F := F)) 𝒱₀ (c : Thread nD τ) none) Set.univ (kk  w) Q)
          -∗ wp frame (wpE (defs₀ (F := F)) 𝒱₀ (c : Thread nD τ) none) Set.univ (k0_part11 xM (Memref.isWhole_whole _) wM (Memref.isWhole_whole _) oM (Memref.isWhole_whole _) xbM (Memref.isWhole_whole _) wbM (Memref.isWhole_whole _) wcM (Memref.isWhole_whole _) yM (Memref.isWhole_whole _) qM (Memref.isWhole_whole _) qiM (Memref.isWhole_whole _) amM (Memref.isWhole_whole _) arM (Memref.isWhole_whole _) cc0_scratch8 cc0_scratch9 cc0_scratch10 cc0_scratch11 cc0_scratch12 c v2 v295 >>= kk) Q) := by
  rw [k0_part11_eq_skeleton]
  unfold k0_part11_skel
  simp only [semSignalWord, semWaitWord, Prog.lift, Prog.bind_op, Prog.bind_ret, Prog.pure_eq_ret, wp_deviceId]
  iintro ⟨#HI, HO, Hm0, ⟨%ZHd0, Hd0⟩, Ht0, Hu0, Hm1, ⟨%ZHd1, Hd1⟩, Ht1, Hu1⟩ Hk
  iapply (wp_send_am X W K c 0 5 rfl rfl _ (dev4_eq c) _ _ rfl rfl _ rfl) $$ [Hm0 Hd0 HO Ht0 Hu0]
  · isplitr; · iexact HI
    isplitl [Hm0]; · iexact Hm0
    isplitl [Hd0]; · iexists _; iexact Hd0
    isplitl [HO]; · iexact HO
    isplitl [Ht0]; · iexact Ht0
    iexact Hu0
  iintro ⟨Hcas0, HO⟩
  iapply (wp_send_am X W K c 1 4 rfl rfl _ (dev5_eq c) _ _ rfl rfl _ rfl) $$ [Hm1 Hd1 HO Ht1 Hu1]
  · isplitr; · iexact HI
    isplitl [Hm1]; · iexact Hm1
    isplitl [Hd1]; · iexists _; iexact Hd1
    isplitl [HO]; · iexact HO
    isplitl [Ht1]; · iexact Ht1
    iexact Hu1
  iintro ⟨Hcas1, HO⟩
  iapply Hk
  isplitl [HO]; · iexact HO
  isplitl [Hcas0]; · iexact Hcas0
  iexact Hcas1

/-- The maximum sent three places on; the first neighbour's awaited. -/
theorem wp_part12 (K : Dev nD × Fin 13 → ℕ) (v295 v325 v326 : BitVec 32) (v327 : BitVec 1) (w0 : BitVec 32) {kk : (Σ' (v333 : BitVec 32), F .f32) → Prog (TpuEff nD τ sig (Elt F) Λ₀ .tc) α} :
    iprop(invs X W K ∗ levAts L lv ∗ ow c 4 ∗ owns (c : Thread nD τ) amM (third 2) (amb (X c) (W c)) ∗ (∃ Z, owns (tgt 2 c : Thread nD τ) (arS 2) fullShare Z) ∗ dutyTok ER (dC (asSem 2) c) 0 0 ∗ dutyTok ER (dC (arSem 2) (tgt 2 c)) 0 0 ∗ cred (tallyAt (dC (asSem 0) c) () NA) ∗ atPos ER (dC (asSem 0) c) 0 ∅ 0 ∗ cred (tallyAt (dC (arSem 0) c) () NA) ∗ atPos ER (dC (arSem 0) c) 0 ∅ 0)
      ⊢ iprop((∀ w, iprop(ow c 3 ∗ cred (tallyAt (dC (asSem 2) c) () NA) ∗ semVal (dC (asSem 0) c) 0 ∗ asPay X W c 0 ∗ semVal (dC (arSem 0) c) 0 ∗ owns (c : Thread nD τ) (arS 0) fullShare (ambs (X (src 0 c)) (W (src 0 c))))
            -∗ wp frame (wpE (defs₀ (F := F)) 𝒱₀ (c : Thread nD τ) none) Set.univ (kk ⟨w, k0_pay36 (am (X c) (W c) 7) (ambs (X (src 0 c)) (W (src 0 c)))⟩) Q)
          -∗ wp frame (wpE (defs₀ (F := F)) 𝒱₀ (c : Thread nD τ) none) Set.univ (k0_part12 xM (Memref.isWhole_whole _) wM (Memref.isWhole_whole _) oM (Memref.isWhole_whole _) xbM (Memref.isWhole_whole _) wbM (Memref.isWhole_whole _) wcM (Memref.isWhole_whole _) yM (Memref.isWhole_whole _) qM (Memref.isWhole_whole _) qiM (Memref.isWhole_whole _) amM (Memref.isWhole_whole _) arM (Memref.isWhole_whole _) cc0_scratch8 cc0_scratch9 cc0_scratch10 cc0_scratch11 cc0_scratch12 c (am (X c) (W c) 7) v295 v325 v326 v327 w0 >>= kk) Q) := by
  rw [k0_part12_eq_skeleton]
  unfold k0_part12_skel
  simp only [semSignalWord, semWaitWord, Prog.lift, Prog.bind_op, Prog.bind_ret, Prog.pure_eq_ret, wp_deviceId]
  iintro ⟨#HI, #Hl, HO, Hm2, ⟨%ZHd2, Hd2⟩, Ht2, Hu2, Hcas0, Hpas0, Hcar0, Hpar0⟩ Hk
  iapply (wp_send_am X W K c 2 3 rfl rfl _ (dev6_eq c) _ _ rfl rfl _ rfl) $$ [Hm2 Hd2 HO Ht2 Hu2]
  · isplitr; · iexact HI
    isplitl [Hm2]; · iexact Hm2
    isplitl [Hd2]; · iexists _; iexact Hd2
    isplitl [HO]; · iexact HO
    isplitl [Ht2]; · iexact Ht2
    iexact Hu2
  iintro ⟨Hcas2, HO⟩
  iapply (wp_wait X W K c (asSem 0) (by decide) NA (amt_as 0) 3 (by decide) (xPay_as X W c 0) _ rfl (by rfl)) $$ [Hcas0 HO Hpas0]
  · isplitr; · iexact HI
    isplitr; · iexact Hl
    isplitl [Hcas0]; · iexact Hcas0
    isplitl [HO]; · iexact HO
    iexact Hpas0
  iintro ⟨HO, Hzas0, Has0⟩
  iapply (wp_wait X W K c (arSem 0) (by decide) NA (amt_ar 0) 3 (by decide) (xPay_ar X W c 0) _ rfl (by rfl)) $$ [Hcar0 HO Hpar0]
  · isplitr; · iexact HI
    isplitr; · iexact Hl
    isplitl [Hcar0]; · iexact Hcar0
    isplitl [HO]; · iexact HO
    iexact Hpar0
  iintro ⟨HO, Hzar0, Har0⟩
  ihave Har0 := (Entails.of_eq (show arPay X W c 0 = owns (c : Thread nD τ) (arS 0) fullShare (ambs (X (src 0 c)) (W (src 0 c))) from rfl)) $$ Har0
  iapply (wp_load_slice 𝒱₀ (c : Thread nD τ) (m := arM) (r := arR 0) (hr := fun _ => rfl)) $$ Har0
  iintro Har0
  iapply Hk
  isplitl [HO]; · iexact HO
  isplitl [Hcas2]; · iexact Hcas2
  isplitl [Hzas0]; · iexact Hzas0
  isplitl [Has0]; · iexact Has0
  isplitl [Hzar0]; · iexact Hzar0
  iexact Har0

/-- The other two neighbours' maxima awaited. -/
theorem wp_part13 (K : Dev nD × Fin 13 → ℕ) (v314 v333 : BitVec 32) {kk : F .f32 → Prog (TpuEff nD τ sig (Elt F) Λ₀ .tc) α} :
    iprop(invs X W K ∗ levAts L lv ∗ ow c 3 ∗ cred (tallyAt (dC (asSem 1) c) () NA) ∗ atPos ER (dC (asSem 1) c) 0 ∅ 0 ∗ cred (tallyAt (dC (arSem 1) c) () NA) ∗ atPos ER (dC (arSem 1) c) 0 ∅ 0 ∗ cred (tallyAt (dC (asSem 2) c) () NA) ∗ atPos ER (dC (asSem 2) c) 0 ∅ 0 ∗ cred (tallyAt (dC (arSem 2) c) () NA) ∗ atPos ER (dC (arSem 2) c) 0 ∅ 0)
      ⊢ iprop((iprop(ow c 3 ∗ semVal (dC (asSem 1) c) 0 ∗ asPay X W c 1 ∗ semVal (dC (arSem 1) c) 0 ∗ owns (c : Thread nD τ) (arS 1) fullShare (ambs (X (src 1 c)) (W (src 1 c))) ∗ semVal (dC (asSem 2) c) 0 ∗ asPay X W c 2 ∗ semVal (dC (arSem 2) c) 0 ∗ owns (c : Thread nD τ) (arS 2) fullShare (ambs (X (src 2 c)) (W (src 2 c))))
            -∗ wp frame (wpE (defs₀ (F := F)) 𝒱₀ (c : Thread nD τ) none) Set.univ (kk (gm X W c)) Q)
          -∗ wp frame (wpE (defs₀ (F := F)) 𝒱₀ (c : Thread nD τ) none) Set.univ (k0_part13 xM (Memref.isWhole_whole _) wM (Memref.isWhole_whole _) oM (Memref.isWhole_whole _) xbM (Memref.isWhole_whole _) wbM (Memref.isWhole_whole _) wcM (Memref.isWhole_whole _) yM (Memref.isWhole_whole _) qM (Memref.isWhole_whole _) qiM (Memref.isWhole_whole _) amM (Memref.isWhole_whole _) arM (Memref.isWhole_whole _) cc0_scratch8 cc0_scratch9 cc0_scratch10 cc0_scratch11 cc0_scratch12 v314 v333 (k0_pay36 (am (X c) (W c) 7) (ambs (X (src 0 c)) (W (src 0 c)))) >>= kk) Q) := by
  rw [k0_part13_eq_skeleton]
  unfold k0_part13_skel
  simp only [semSignalWord, semWaitWord, Prog.lift, Prog.bind_op, Prog.bind_ret, Prog.pure_eq_ret, wp_deviceId]
  iintro ⟨#HI, #Hl, HO, Hcas1, Hpas1, Hcar1, Hpar1, Hcas2, Hpas2, Hcar2, Hpar2⟩ Hk
  iapply (wp_wait X W K c (asSem 1) (by decide) NA (amt_as 1) 3 (by decide) (xPay_as X W c 1) _ rfl (by rfl)) $$ [Hcas1 HO Hpas1]
  · isplitr; · iexact HI
    isplitr; · iexact Hl
    isplitl [Hcas1]; · iexact Hcas1
    isplitl [HO]; · iexact HO
    iexact Hpas1
  iintro ⟨HO, Hzas1, Has1⟩
  iapply (wp_wait X W K c (arSem 1) (by decide) NA (amt_ar 1) 3 (by decide) (xPay_ar X W c 1) _ rfl (by rfl)) $$ [Hcar1 HO Hpar1]
  · isplitr; · iexact HI
    isplitr; · iexact Hl
    isplitl [Hcar1]; · iexact Hcar1
    isplitl [HO]; · iexact HO
    iexact Hpar1
  iintro ⟨HO, Hzar1, Har1⟩
  ihave Har1 := (Entails.of_eq (show arPay X W c 1 = owns (c : Thread nD τ) (arS 1) fullShare (ambs (X (src 1 c)) (W (src 1 c))) from rfl)) $$ Har1
  iapply (wp_load_slice 𝒱₀ (c : Thread nD τ) (m := arM) (r := arR 1) (hr := fun _ => rfl)) $$ Har1
  iintro Har1
  iapply (wp_wait X W K c (asSem 2) (by decide) NA (amt_as 2) 3 (by decide) (xPay_as X W c 2) _ rfl (by rfl)) $$ [Hcas2 HO Hpas2]
  · isplitr; · iexact HI
    isplitr; · iexact Hl
    isplitl [Hcas2]; · iexact Hcas2
    isplitl [HO]; · iexact HO
    iexact Hpas2
  iintro ⟨HO, Hzas2, Has2⟩
  iapply (wp_wait X W K c (arSem 2) (by decide) NA (amt_ar 2) 3 (by decide) (xPay_ar X W c 2) _ rfl (by rfl)) $$ [Hcar2 HO Hpar2]
  · isplitr; · iexact HI
    isplitr; · iexact Hl
    isplitl [Hcar2]; · iexact Hcar2
    isplitl [HO]; · iexact HO
    iexact Hpar2
  iintro ⟨HO, Hzar2, Har2⟩
  ihave Har2 := (Entails.of_eq (show arPay X W c 2 = owns (c : Thread nD τ) (arS 2) fullShare (ambs (X (src 2 c)) (W (src 2 c))) from rfl)) $$ Har2
  iapply Hk
  isplitl [HO]; · iexact HO
  isplitl [Hzas1]; · iexact Hzas1
  isplitl [Has1]; · iexact Has1
  isplitl [Hzar1]; · iexact Hzar1
  isplitl [Har1]; · iexact Har1
  isplitl [Hzas2]; · iexact Hzas2
  isplitl [Has2]; · iexact Has2
  isplitl [Hzar2]; · iexact Hzar2
  iexact Har2

/-- The scale, and the first two chunks quantized. -/
theorem wp_part14 {kk : (Σ' (v393 : F .f32) (cst_344 : F .f32), FVec F S1024x512 .f32) → Prog (TpuEff nD τ sig (Elt F) Λ₀ .tc) α} :
    iprop(owns (c : Thread nD τ) (arS 2) fullShare (ambs (X (src 2 c)) (W (src 2 c))) ∗ owns (c : Thread nD τ) yM fullShare (yv (X c) (W c)) ∗ (∃ Z, owns (c : Thread nD τ) (qS 0) fullShare Z) ∗ (∃ Z, owns (c : Thread nD τ) (qS 1) fullShare Z))
      ⊢ iprop((iprop(owns (c : Thread nD τ) (arS 2) fullShare (ambs (X (src 2 c)) (W (src 2 c))) ∗ owns (c : Thread nD τ) yM fullShare (yv (X c) (W c)) ∗ owns (c : Thread nD τ) (qS 0) fullShare (qv X W c 0) ∗ owns (c : Thread nD τ) (qS 1) fullShare (qv X W c 1))
            -∗ wp frame (wpE (defs₀ (F := F)) 𝒱₀ (c : Thread nD τ) none) Set.univ (kk ⟨scl X W c, Scalar.ofBits .f32 0x43E00000#32, k0_pay41 (gm X W c) (ambs (X (src 2 c)) (W (src 2 c))) (ych (X c) (W c) 2)⟩) Q)
          -∗ wp frame (wpE (defs₀ (F := F)) 𝒱₀ (c : Thread nD τ) none) Set.univ (k0_part14 xM (Memref.isWhole_whole _) wM (Memref.isWhole_whole _) oM (Memref.isWhole_whole _) xbM (Memref.isWhole_whole _) wbM (Memref.isWhole_whole _) wcM (Memref.isWhole_whole _) yM (Memref.isWhole_whole _) qM (Memref.isWhole_whole _) qiM (Memref.isWhole_whole _) amM (Memref.isWhole_whole _) arM (Memref.isWhole_whole _) cc0_scratch8 cc0_scratch9 cc0_scratch10 cc0_scratch11 cc0_scratch12 (gm X W c) >>= kk) Q) := by
  rw [k0_part14_eq_skeleton]
  unfold k0_part14_skel
  simp only [semSignalWord, semWaitWord, Prog.lift, Prog.bind_op, Prog.bind_ret, Prog.pure_eq_ret, wp_deviceId]
  iintro ⟨Har2, Hy, ⟨%ZHq0, Hq0⟩, ⟨%ZHq1, Hq1⟩⟩ Hk
  iapply (wp_load_slice 𝒱₀ (c : Thread nD τ) (m := arM) (r := arR 2) (hr := fun _ => rfl)) $$ Har2
  iintro Har2
  iapply (Own.wp_load 𝒱₀ (c : Thread nD τ) (m := yM) (r := y4R 0)) $$ Hy
  iintro Hy
  iapply (wp_load_slice 𝒱₀ (c : Thread nD τ) (m := qM) (r := qR 0) (hr := fun _ => rfl)) $$ Hq0
  iintro Hq0
  iapply (wp_store_slice 𝒱₀ (c : Thread nD τ) (m := qM) (r := qR 0) (hr := fun _ => rfl)) $$ Hq0
  iintro Hq0
  iapply (Own.wp_load 𝒱₀ (c : Thread nD τ) (m := yM) (r := y4R 1)) $$ Hy
  iintro Hy
  iapply (wp_load_slice 𝒱₀ (c : Thread nD τ) (m := qM) (r := qR 1) (hr := fun _ => rfl)) $$ Hq1
  iintro Hq1
  iapply (wp_store_slice 𝒱₀ (c : Thread nD τ) (m := qM) (r := qR 1) (hr := fun _ => rfl)) $$ Hq1
  iintro Hq1
  iapply (Own.wp_load 𝒱₀ (c : Thread nD τ) (m := yM) (r := y4R 2)) $$ Hy
  iintro Hy
  iapply Hk
  isplitl [Har2]; · iexact Har2
  isplitl [Hy]; · iexact Hy
  isplitl [Hq0]; · iexact Hq0
  iexact Hq1

/-- The other two chunks quantized. -/
theorem wp_part15 (v2 : BitVec 32) {kk : BitVec 32 → Prog (TpuEff nD τ sig (Elt F) Λ₀ .tc) α} :
    iprop(owns (c : Thread nD τ) yM fullShare (yv (X c) (W c)) ∗ (∃ Z, owns (c : Thread nD τ) (qS 2) fullShare Z) ∗ (∃ Z, owns (c : Thread nD τ) (qS 3) fullShare Z))
      ⊢ iprop((∀ w, iprop(owns (c : Thread nD τ) yM fullShare (yv (X c) (W c)) ∗ owns (c : Thread nD τ) (qS 2) fullShare (qv X W c 2) ∗ owns (c : Thread nD τ) (qS 3) fullShare (qv X W c 3))
            -∗ wp frame (wpE (defs₀ (F := F)) 𝒱₀ (c : Thread nD τ) none) Set.univ (kk  w) Q)
          -∗ wp frame (wpE (defs₀ (F := F)) 𝒱₀ (c : Thread nD τ) none) Set.univ (k0_part15 xM (Memref.isWhole_whole _) wM (Memref.isWhole_whole _) oM (Memref.isWhole_whole _) xbM (Memref.isWhole_whole _) wbM (Memref.isWhole_whole _) wcM (Memref.isWhole_whole _) yM (Memref.isWhole_whole _) qM (Memref.isWhole_whole _) qiM (Memref.isWhole_whole _) amM (Memref.isWhole_whole _) arM (Memref.isWhole_whole _) cc0_scratch8 cc0_scratch9 cc0_scratch10 cc0_scratch11 cc0_scratch12 v2 (scl X W c) (Scalar.ofBits .f32 0x43E00000#32) (k0_pay41 (gm X W c) (ambs (X (src 2 c)) (W (src 2 c))) (ych (X c) (W c) 2)) >>= kk) Q) := by
  rw [k0_part15_eq_skeleton]
  unfold k0_part15_skel
  simp only [semSignalWord, semWaitWord, Prog.lift, Prog.bind_op, Prog.bind_ret, Prog.pure_eq_ret, wp_deviceId]
  iintro ⟨Hy, ⟨%ZHq2, Hq2⟩, ⟨%ZHq3, Hq3⟩⟩ Hk
  iapply (wp_load_slice 𝒱₀ (c : Thread nD τ) (m := qM) (r := qR 2) (hr := fun _ => rfl)) $$ Hq2
  iintro Hq2
  iapply (wp_store_slice 𝒱₀ (c : Thread nD τ) (m := qM) (r := qR 2) (hr := fun _ => rfl)) $$ Hq2
  iintro Hq2
  iapply (Own.wp_load 𝒱₀ (c : Thread nD τ) (m := yM) (r := y4R 3)) $$ Hy
  iintro Hy
  iapply (wp_load_slice 𝒱₀ (c : Thread nD τ) (m := qM) (r := qR 3) (hr := fun _ => rfl)) $$ Hq3
  iintro Hq3
  iapply (wp_store_slice 𝒱₀ (c : Thread nD τ) (m := qM) (r := qR 3) (hr := fun _ => rfl)) $$ Hq3
  iintro Hq3
  iapply Hk
  isplitl [Hy]; · iexact Hy
  isplitl [Hq2]; · iexact Hq2
  iexact Hq3

end Cert.KernelIdeal.Prf

end
-- ==== Proof.KernelIdeal.Chunks.lean ====
/- The exchange of chunks, part by part. -/
module

public import proofs.«01_k».proof.Proof.KernelIdeal.Places
public import proofs.«01_k».proof.Proof.KernelIdeal.Blocks

@[expose] public section

noncomputable section

namespace Cert.KernelIdeal.Prf

open Cert.KernelIdeal Cert.KernelIdeal.Gen Cert.Own
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → S1024x4096.Idx → Elt F .f32) (W : Dev nD → S4096x2048.Idx → Elt F .f32)
variable (c : Dev nD) {α : Type} {Q : α → sProp (MT nD τ sig Unit (Elt F) ℕ UU ℕ)}

/-- The chunks for the devices one and two places on sent. -/
theorem wp_part16 (K : Dev nD × Fin 13 → ℕ) (v2 : BitVec 32) {kk : (Σ' (v469 : BitVec 32) (v482 : BitVec 32) (v483 : BitVec 32) (v484 : BitVec 1), BitVec 1) → Prog (TpuEff nD τ sig (Elt F) Λ₀ .tc) α} :
    iprop(invs X W K ∗ ow c 3 ∗ owns (c : Thread nD τ) (qS (tgt 0 c)) fullShare (qv X W c (tgt 0 c)) ∗ (∃ Z, owns (tgt 0 c : Thread nD τ) (qiS 0) fullShare Z) ∗ dutyTok ER (dC (qsSem 0) c) 0 0 ∗ dutyTok ER (dC (qrSem 0) (tgt 0 c)) 0 0 ∗ owns (c : Thread nD τ) (qS (tgt 1 c)) fullShare (qv X W c (tgt 1 c)) ∗ (∃ Z, owns (tgt 1 c : Thread nD τ) (qiS 1) fullShare Z) ∗ dutyTok ER (dC (qsSem 1) c) 0 0 ∗ dutyTok ER (dC (qrSem 1) (tgt 1 c)) 0 0)
      ⊢ iprop((∀ w, iprop(ow c 1 ∗ cred (tallyAt (dC (qsSem 0) c) () NQ) ∗ cred (tallyAt (dC (qsSem 1) c) () NQ))
            -∗ wp frame (wpE (defs₀ (F := F)) 𝒱₀ (c : Thread nD τ) none) Set.univ (kk  w) Q)
          -∗ wp frame (wpE (defs₀ (F := F)) 𝒱₀ (c : Thread nD τ) none) Set.univ (k0_part16 xM (Memref.isWhole_whole _) wM (Memref.isWhole_whole _) oM (Memref.isWhole_whole _) xbM (Memref.isWhole_whole _) wbM (Memref.isWhole_whole _) wcM (Memref.isWhole_whole _) yM (Memref.isWhole_whole _) qM (Memref.isWhole_whole _) qiM (Memref.isWhole_whole _) amM (Memref.isWhole_whole _) arM (Memref.isWhole_whole _) cc0_scratch8 cc0_scratch9 cc0_scratch10 cc0_scratch11 cc0_scratch12 c v2 >>= kk) Q) := by
  rw [k0_part16_eq_skeleton]
  unfold k0_part16_skel
  simp only [semSignalWord, semWaitWord, Prog.lift, Prog.bind_op, Prog.bind_ret, Prog.pure_eq_ret, wp_deviceId]
  iintro ⟨#HI, HO, Hs0, ⟨%ZHd0, Hd0⟩, Ht0, Hu0, Hs1, ⟨%ZHd1, Hd1⟩, Ht1, Hu1⟩ Hk
  iapply (wp_send_q X W K c 0 2 rfl rfl _ (dev7_eq c) _ _ rfl rfl _ (off1_0 c) _ rfl) $$ [Hs0 Hd0 HO Ht0 Hu0]
  · isplitr; · iexact HI
    isplitl [Hs0]; · iexact Hs0
    isplitl [Hd0]; · iexists _; iexact Hd0
    isplitl [HO]; · iexact HO
    isplitl [Ht0]; · iexact Ht0
    iexact Hu0
  iintro ⟨Hcqs0, HO⟩
  iapply (wp_send_q X W K c 1 1 rfl rfl _ (dev8_eq c) _ _ rfl rfl _ (off1_1 c) _ rfl) $$ [Hs1 Hd1 HO Ht1 Hu1]
  · isplitr; · iexact HI
    isplitl [Hs1]; · iexact Hs1
    isplitl [Hd1]; · iexists _; iexact Hd1
    isplitl [HO]; · iexact HO
    isplitl [Ht1]; · iexact Ht1
    iexact Hu1
  iintro ⟨Hcqs1, HO⟩
  iapply Hk
  isplitl [HO]; · iexact HO
  isplitl [Hcqs0]; · iexact Hcqs0
  iexact Hcqs1

/-- The chunk from the device one place before, awaited and scaled. -/
theorem wp_part18 (K : Dev nD × Fin 13 → ℕ) (v2 w' : BitVec 32) {kk : PUnit → Prog (TpuEff nD τ sig (Elt F) Λ₀ .tc) α} :
    iprop(invs X W K ∗ levAts L lv ∗ ow c 0 ∗ cred (tallyAt (dC (qsSem 0) c) () NQ) ∗ atPos ER (dC (qsSem 0) c) 0 ∅ 0 ∗ cred (tallyAt (dC (qrSem 0) c) () NQ) ∗ atPos ER (dC (qrSem 0) c) 0 ∅ 0 ∗ (∃ Z, owns (c : Thread nD τ) (oS (src 0 c)) fullShare Z))
      ⊢ iprop((iprop(ow c 0 ∗ semVal (dC (qsSem 0) c) 0 ∗ qsPay X W c 0 ∗ semVal (dC (qrSem 0) c) 0 ∗ owns (c : Thread nD τ) (qiS 0) fullShare (qv X W (src 0 c) c) ∗ owns (c : Thread nD τ) (oS (src 0 c)) fullShare (ov X W c (src 0 c)))
            -∗ wp frame (wpE (defs₀ (F := F)) 𝒱₀ (c : Thread nD τ) none) Set.univ (kk ⟨⟩) Q)
          -∗ wp frame (wpE (defs₀ (F := F)) 𝒱₀ (c : Thread nD τ) none) Set.univ (k0_part18 xM (Memref.isWhole_whole _) wM (Memref.isWhole_whole _) oM (Memref.isWhole_whole _) xbM (Memref.isWhole_whole _) wbM (Memref.isWhole_whole _) wcM (Memref.isWhole_whole _) yM (Memref.isWhole_whole _) qM (Memref.isWhole_whole _) qiM (Memref.isWhole_whole _) amM (Memref.isWhole_whole _) arM (Memref.isWhole_whole _) cc0_scratch8 cc0_scratch9 cc0_scratch10 cc0_scratch11 cc0_scratch12 c v2 (scl X W c) w' >>= kk) Q) := by
  rw [k0_part18_eq_skeleton]
  unfold k0_part18_skel
  simp only [semSignalWord, semWaitWord, Prog.lift, Prog.bind_op, Prog.bind_ret, Prog.pure_eq_ret, wp_deviceId]
  iintro ⟨#HI, #Hl, HO, Hcqs0, Hpqs0, Hcqr0, Hpqr0, ⟨%ZHo, Ho⟩⟩ Hk
  iapply (wp_wait X W K c (qsSem 0) (by decide) NQ (amt_qs 0) 0 (by decide) (xPay_qs X W c 0) _ rfl (by rfl)) $$ [Hcqs0 HO Hpqs0]
  · isplitr; · iexact HI
    isplitr; · iexact Hl
    isplitl [Hcqs0]; · iexact Hcqs0
    isplitl [HO]; · iexact HO
    iexact Hpqs0
  iintro ⟨HO, Hzqs0, Hqs0⟩
  iapply (wp_wait X W K c (qrSem 0) (by decide) NQ (amt_qr 0) 0 (by decide) (xPay_qr X W c 0) _ rfl (by rfl)) $$ [Hcqr0 HO Hpqr0]
  · isplitr; · iexact HI
    isplitr; · iexact Hl
    isplitl [Hcqr0]; · iexact Hcqr0
    isplitl [HO]; · iexact HO
    iexact Hpqr0
  iintro ⟨HO, Hzqr0, Hqr0⟩
  ihave Hqr0 := (Entails.of_eq (show qrPay X W c 0 = owns (c : Thread nD τ) (qiS 0) fullShare (qv X W (src 0 c) c) from rfl)) $$ Hqr0
  iapply (wp_load_slice 𝒱₀ (c : Thread nD τ) (m := qiM) (r := qiR 0) (hr := fun _ => rfl)) $$ Hqr0
  iintro Hqr0
  ihave Ho := (Entails.of_eq (owns_off (c : Thread nD τ) oM fullShare (off2_0 c).symm (oR_fits (src 0 c)) (k0_off2_inb c 0) (fun _ => rfl) (fun _ => rfl) ZHo)) $$ Ho
  iapply (wp_load_slice 𝒱₀ (c : Thread nD τ) (m := oM) (r := Rect.unit (s := S4096x512) (k0_off2 c 1#32) S1024x512.size (k0_off2_inb c 0)) (hr := fun _ => rfl)) $$ Ho
  iintro Ho
  iapply (wp_store_slice 𝒱₀ (c : Thread nD τ) (m := oM) (r := Rect.unit (s := S4096x512) (k0_off2 c 1#32) S1024x512.size (k0_off2_inb c 0)) (hr := fun _ => rfl)) $$ Ho
  iintro Ho
  ihave Ho := (Entails.of_eq (owns_off (c : Thread nD τ) oM fullShare (off2_0 c) (k0_off2_inb c 0) (oR_fits (src 0 c)) (fun _ => rfl) (fun _ => rfl) _)) $$ Ho
  iapply Hk
  isplitl [HO]; · iexact HO
  isplitl [Hzqs0]; · iexact Hzqs0
  isplitl [Hqs0]; · iexact Hqs0
  isplitl [Hzqr0]; · iexact Hzqr0
  isplitl [Hqr0]; · iexact Hqr0
  iexact Ho

/-- The chunk from the device two places before, awaited and scaled. -/
theorem wp_part19 (K : Dev nD × Fin 13 → ℕ) (v2 w' : BitVec 32) {kk : PUnit → Prog (TpuEff nD τ sig (Elt F) Λ₀ .tc) α} :
    iprop(invs X W K ∗ levAts L lv ∗ ow c 0 ∗ cred (tallyAt (dC (qsSem 1) c) () NQ) ∗ atPos ER (dC (qsSem 1) c) 0 ∅ 0 ∗ cred (tallyAt (dC (qrSem 1) c) () NQ) ∗ atPos ER (dC (qrSem 1) c) 0 ∅ 0 ∗ (∃ Z, owns (c : Thread nD τ) (oS (src 1 c)) fullShare Z))
      ⊢ iprop((iprop(ow c 0 ∗ semVal (dC (qsSem 1) c) 0 ∗ qsPay X W c 1 ∗ semVal (dC (qrSem 1) c) 0 ∗ owns (c : Thread nD τ) (qiS 1) fullShare (qv X W (src 1 c) c) ∗ owns (c : Thread nD τ) (oS (src 1 c)) fullShare (ov X W c (src 1 c)))
            -∗ wp frame (wpE (defs₀ (F := F)) 𝒱₀ (c : Thread nD τ) none) Set.univ (kk ⟨⟩) Q)
          -∗ wp frame (wpE (defs₀ (F := F)) 𝒱₀ (c : Thread nD τ) none) Set.univ (k0_part19 xM (Memref.isWhole_whole _) wM (Memref.isWhole_whole _) oM (Memref.isWhole_whole _) xbM (Memref.isWhole_whole _) wbM (Memref.isWhole_whole _) wcM (Memref.isWhole_whole _) yM (Memref.isWhole_whole _) qM (Memref.isWhole_whole _) qiM (Memref.isWhole_whole _) amM (Memref.isWhole_whole _) arM (Memref.isWhole_whole _) cc0_scratch8 cc0_scratch9 cc0_scratch10 cc0_scratch11 cc0_scratch12 c v2 (scl X W c) w' >>= kk) Q) := by
  rw [k0_part19_eq_skeleton]
  unfold k0_part19_skel
  simp only [semSignalWord, semWaitWord, Prog.lift, Prog.bind_op, Prog.bind_ret, Prog.pure_eq_ret, wp_deviceId]
  iintro ⟨#HI, #Hl, HO, Hcqs1, Hpqs1, Hcqr1, Hpqr1, ⟨%ZHo, Ho⟩⟩ Hk
  iapply (wp_wait X W K c (qsSem 1) (by decide) NQ (amt_qs 1) 0 (by decide) (xPay_qs X W c 1) _ rfl (by rfl)) $$ [Hcqs1 HO Hpqs1]
  · isplitr; · iexact HI
    isplitr; · iexact Hl
    isplitl [Hcqs1]; · iexact Hcqs1
    isplitl [HO]; · iexact HO
    iexact Hpqs1
  iintro ⟨HO, Hzqs1, Hqs1⟩
  iapply (wp_wait X W K c (qrSem 1) (by decide) NQ (amt_qr 1) 0 (by decide) (xPay_qr X W c 1) _ rfl (by rfl)) $$ [Hcqr1 HO Hpqr1]
  · isplitr; · iexact HI
    isplitr; · iexact Hl
    isplitl [Hcqr1]; · iexact Hcqr1
    isplitl [HO]; · iexact HO
    iexact Hpqr1
  iintro ⟨HO, Hzqr1, Hqr1⟩
  ihave Hqr1 := (Entails.of_eq (show qrPay X W c 1 = owns (c : Thread nD τ) (qiS 1) fullShare (qv X W (src 1 c) c) from rfl)) $$ Hqr1
  iapply (wp_load_slice 𝒱₀ (c : Thread nD τ) (m := qiM) (r := qiR 1) (hr := fun _ => rfl)) $$ Hqr1
  iintro Hqr1
  ihave Ho := (Entails.of_eq (owns_off (c : Thread nD τ) oM fullShare (off2_1 c).symm (oR_fits (src 1 c)) (k0_off2_inb c 1) (fun _ => rfl) (fun _ => rfl) ZHo)) $$ Ho
  iapply (wp_load_slice 𝒱₀ (c : Thread nD τ) (m := oM) (r := Rect.unit (s := S4096x512) (k0_off2 c 2#32) S1024x512.size (k0_off2_inb c 1)) (hr := fun _ => rfl)) $$ Ho
  iintro Ho
  iapply (wp_store_slice 𝒱₀ (c : Thread nD τ) (m := oM) (r := Rect.unit (s := S4096x512) (k0_off2 c 2#32) S1024x512.size (k0_off2_inb c 1)) (hr := fun _ => rfl)) $$ Ho
  iintro Ho
  ihave Ho := (Entails.of_eq (owns_off (c : Thread nD τ) oM fullShare (off2_1 c) (k0_off2_inb c 1) (oR_fits (src 1 c)) (fun _ => rfl) (fun _ => rfl) _)) $$ Ho
  iapply Hk
  isplitl [HO]; · iexact HO
  isplitl [Hzqs1]; · iexact Hzqs1
  isplitl [Hqs1]; · iexact Hqs1
  isplitl [Hzqr1]; · iexact Hzqr1
  isplitl [Hqr1]; · iexact Hqr1
  iexact Ho

/-- The chunk from the device three places before, awaited. -/
theorem wp_part20 (K : Dev nD × Fin 13 → ℕ) (v2 w' : BitVec 32) {kk : FVec F S1024x512 .f32 → Prog (TpuEff nD τ sig (Elt F) Λ₀ .tc) α} :
    iprop(invs X W K ∗ levAts L lv ∗ ow c 0 ∗ cred (tallyAt (dC (qsSem 2) c) () NQ) ∗ atPos ER (dC (qsSem 2) c) 0 ∅ 0 ∗ cred (tallyAt (dC (qrSem 2) c) () NQ) ∗ atPos ER (dC (qrSem 2) c) 0 ∅ 0)
      ⊢ iprop((iprop(ow c 0 ∗ semVal (dC (qsSem 2) c) 0 ∗ qsPay X W c 2 ∗ semVal (dC (qrSem 2) c) 0 ∗ owns (c : Thread nD τ) (qiS 2) fullShare (qv X W (src 2 c) c))
            -∗ wp frame (wpE (defs₀ (F := F)) 𝒱₀ (c : Thread nD τ) none) Set.univ (kk (ov X W c (src 2 c))) Q)
          -∗ wp frame (wpE (defs₀ (F := F)) 𝒱₀ (c : Thread nD τ) none) Set.univ (k0_part20 xM (Memref.isWhole_whole _) wM (Memref.isWhole_whole _) oM (Memref.isWhole_whole _) xbM (Memref.isWhole_whole _) wbM (Memref.isWhole_whole _) wcM (Memref.isWhole_whole _) yM (Memref.isWhole_whole _) qM (Memref.isWhole_whole _) qiM (Memref.isWhole_whole _) amM (Memref.isWhole_whole _) arM (Memref.isWhole_whole _) cc0_scratch8 cc0_scratch9 cc0_scratch10 cc0_scratch11 cc0_scratch12 c v2 (scl X W c) w' >>= kk) Q) := by
  rw [k0_part20_eq_skeleton]
  unfold k0_part20_skel
  simp only [semSignalWord, semWaitWord, Prog.lift, Prog.bind_op, Prog.bind_ret, Prog.pure_eq_ret, wp_deviceId]
  iintro ⟨#HI, #Hl, HO, Hcqs2, Hpqs2, Hcqr2, Hpqr2⟩ Hk
  iapply (wp_wait X W K c (qsSem 2) (by decide) NQ (amt_qs 2) 0 (by decide) (xPay_qs X W c 2) _ rfl (by rfl)) $$ [Hcqs2 HO Hpqs2]
  · isplitr; · iexact HI
    isplitr; · iexact Hl
    isplitl [Hcqs2]; · iexact Hcqs2
    isplitl [HO]; · iexact HO
    iexact Hpqs2
  iintro ⟨HO, Hzqs2, Hqs2⟩
  iapply (wp_wait X W K c (qrSem 2) (by decide) NQ (amt_qr 2) 0 (by decide) (xPay_qr X W c 2) _ rfl (by rfl)) $$ [Hcqr2 HO Hpqr2]
  · isplitr; · iexact HI
    isplitr; · iexact Hl
    isplitl [Hcqr2]; · iexact Hcqr2
    isplitl [HO]; · iexact HO
    iexact Hpqr2
  iintro ⟨HO, Hzqr2, Hqr2⟩
  ihave Hqr2 := (Entails.of_eq (show qrPay X W c 2 = owns (c : Thread nD τ) (qiS 2) fullShare (qv X W (src 2 c) c) from rfl)) $$ Hqr2
  iapply (wp_load_slice 𝒱₀ (c : Thread nD τ) (m := qiM) (r := qiR 2) (hr := fun _ => rfl)) $$ Hqr2
  iintro Hqr2
  iapply Hk
  isplitl [HO]; · iexact HO
  isplitl [Hzqs2]; · iexact Hzqs2
  isplitl [Hqs2]; · iexact Hqs2
  isplitl [Hzqr2]; · iexact Hzqr2
  iexact Hqr2

end Cert.KernelIdeal.Prf

end
-- ==== Proof.KernelIdeal.Mine.lean ====
/- The device's own chunk. -/
module

public import proofs.«01_k».proof.Proof.KernelIdeal.Places
public import proofs.«01_k».proof.Proof.KernelIdeal.Blocks

@[expose] public section

noncomputable section

namespace Cert.KernelIdeal.Prf

open Cert.KernelIdeal Cert.KernelIdeal.Gen Cert.Own
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → S1024x4096.Idx → Elt F .f32) (W : Dev nD → S4096x2048.Idx → Elt F .f32)
variable (c : Dev nD) {α : Type} {Q : α → sProp (MT nD τ sig Unit (Elt F) ℕ UU ℕ)}

/-- The check that a device is at place 0. -/
theorem at_0 (c : Dev nD) : (Scalar.cmpi .ne (Scalar.extui (Scalar.cmpi .eq (place c) 0#32) : BitVec 32) 0#32 = 1#1) = (c = 0) := by revert c; decide

/-- The check that a device is at place 1. -/
theorem at_1 (c : Dev nD) : (Scalar.cmpi .ne (Scalar.extui (Scalar.cmpi .eq (place c) 1#32) : BitVec 32) 0#32 = 1#1) = (c = 1) := by revert c; decide

/-- The check that a device is at place 2. -/
theorem at_2 (c : Dev nD) : (Scalar.cmpi .ne (Scalar.extui (Scalar.cmpi .eq (place c) 2#32) : BitVec 32) 0#32 = 1#1) = (c = 2) := by revert c; decide

/-- The check that a device is at place 3. -/
theorem at_3 (c : Dev nD) : (Scalar.cmpi .ne (Scalar.extui (Scalar.cmpi .eq (place c) 3#32) : BitVec 32) 0#32 = 1#1) = (c = 3) := by revert c; decide

/-- The chunk for the device three places on sent; the device's own chunk scaled. -/
theorem wp_part17 (K : Dev nD × Fin 13 → ℕ) (v2 v482 v483 : BitVec 32) (v484 v487 : BitVec 1) {kk : BitVec 32 → Prog (TpuEff nD τ sig (Elt F) Λ₀ .tc) α} :
    iprop(invs X W K ∗ ow c 1 ∗ owns (c : Thread nD τ) (qS (tgt 2 c)) fullShare (qv X W c (tgt 2 c)) ∗ (∃ Z, owns (tgt 2 c : Thread nD τ) (qiS 2) fullShare Z) ∗ dutyTok ER (dC (qsSem 2) c) 0 0 ∗ dutyTok ER (dC (qrSem 2) (tgt 2 c)) 0 0 ∗ owns (c : Thread nD τ) (qS c) fullShare (qv X W c c) ∗ (∃ Z, owns (c : Thread nD τ) (oS c) fullShare Z))
      ⊢ iprop((∀ w, iprop(ow c 0 ∗ cred (tallyAt (dC (qsSem 2) c) () NQ) ∗ owns (c : Thread nD τ) (qS c) fullShare (qv X W c c) ∗ owns (c : Thread nD τ) (oS c) fullShare (ov X W c c))
            -∗ wp frame (wpE (defs₀ (F := F)) 𝒱₀ (c : Thread nD τ) none) Set.univ (kk  w) Q)
          -∗ wp frame (wpE (defs₀ (F := F)) 𝒱₀ (c : Thread nD τ) none) Set.univ (k0_part17 xM (Memref.isWhole_whole _) wM (Memref.isWhole_whole _) oM (Memref.isWhole_whole _) xbM (Memref.isWhole_whole _) wbM (Memref.isWhole_whole _) wcM (Memref.isWhole_whole _) yM (Memref.isWhole_whole _) qM (Memref.isWhole_whole _) qiM (Memref.isWhole_whole _) amM (Memref.isWhole_whole _) arM (Memref.isWhole_whole _) cc0_scratch8 cc0_scratch9 cc0_scratch10 cc0_scratch11 cc0_scratch12 c (place c) (scl X W c) v482 v483 v484 v487 >>= kk) Q) := by
  rw [k0_part17_eq_skeleton]
  unfold k0_part17_skel
  simp only [semSignalWord, semWaitWord, Prog.lift, Prog.bind_op, Prog.bind_ret, Prog.pure_eq_ret, wp_deviceId]
  iintro ⟨#HI, HO, Hs2, ⟨%ZHd2, Hd2⟩, Ht2, Hu2, Hq, ⟨%ZHo, Ho⟩⟩ Hk
  iapply (wp_send_q X W K c 2 0 rfl rfl _ (dev9_eq c) _ _ rfl rfl _ (off1_2 c) _ rfl) $$ [Hs2 Hd2 HO Ht2 Hu2]
  · isplitr; · iexact HI
    isplitl [Hs2]; · iexact Hs2
    isplitl [Hd2]; · iexists _; iexact Hd2
    isplitl [HO]; · iexact HO
    isplitl [Ht2]; · iexact Ht2
    iexact Hu2
  iintro ⟨Hcqs2, HO⟩
  have h4 : c = 0 ∨ c = 1 ∨ c = 2 ∨ c = 3 := by revert c; decide
  simp only [at_0, at_1, at_2, at_3]
  rcases h4 with h | h | h | h
  · subst h
    simp only [(by decide : ((0 : Dev nD) = 1) = False), (by decide : ((0 : Dev nD) = 2) = False), (by decide : ((0 : Dev nD) = 3) = False), dite_true, dite_false, dite_cond_eq_false, dite_cond_eq_true, Prog.bind_op, Prog.bind_ret]
    iapply (wp_load_slice 𝒱₀ ((0 : Dev nD) : Thread nD τ) (m := qM) (r := qR 0) (hr := fun _ => rfl)) $$ Hq
    iintro Hq
    iapply (wp_load_slice 𝒱₀ ((0 : Dev nD) : Thread nD τ) (m := oM) (r := oR 0) (hr := fun _ => rfl)) $$ Ho
    iintro Ho
    iapply (wp_store_slice 𝒱₀ ((0 : Dev nD) : Thread nD τ) (m := oM) (r := oR 0) (hr := fun _ => rfl)) $$ Ho
    iintro Ho
    iapply Hk
    isplitl [HO]; · iexact HO
    isplitl [Hcqs2]; · iexact Hcqs2
    isplitl [Hq]; · iexact Hq
    iexact Ho
  · subst h
    simp only [(by decide : ((1 : Dev nD) = 0) = False), (by decide : ((1 : Dev nD) = 2) = False), (by decide : ((1 : Dev nD) = 3) = False), dite_true, dite_false, dite_cond_eq_false, dite_cond_eq_true, Prog.bind_op, Prog.bind_ret]
    iapply (wp_load_slice 𝒱₀ ((1 : Dev nD) : Thread nD τ) (m := qM) (r := qR 1) (hr := fun _ => rfl)) $$ Hq
    iintro Hq
    iapply (wp_load_slice 𝒱₀ ((1 : Dev nD) : Thread nD τ) (m := oM) (r := oR 1) (hr := fun _ => rfl)) $$ Ho
    iintro Ho
    iapply (wp_store_slice 𝒱₀ ((1 : Dev nD) : Thread nD τ) (m := oM) (r := oR 1) (hr := fun _ => rfl)) $$ Ho
    iintro Ho
    iapply Hk
    isplitl [HO]; · iexact HO
    isplitl [Hcqs2]; · iexact Hcqs2
    isplitl [Hq]; · iexact Hq
    iexact Ho
  · subst h
    simp only [(by decide : ((2 : Dev nD) = 0) = False), (by decide : ((2 : Dev nD) = 1) = False), (by decide : ((2 : Dev nD) = 3) = False), dite_true, dite_false, dite_cond_eq_false, dite_cond_eq_true, Prog.bind_op, Prog.bind_ret]
    iapply (wp_load_slice 𝒱₀ ((2 : Dev nD) : Thread nD τ) (m := qM) (r := qR 2) (hr := fun _ => rfl)) $$ Hq
    iintro Hq
    iapply (wp_load_slice 𝒱₀ ((2 : Dev nD) : Thread nD τ) (m := oM) (r := oR 2) (hr := fun _ => rfl)) $$ Ho
    iintro Ho
    iapply (wp_store_slice 𝒱₀ ((2 : Dev nD) : Thread nD τ) (m := oM) (r := oR 2) (hr := fun _ => rfl)) $$ Ho
    iintro Ho
    iapply Hk
    isplitl [HO]; · iexact HO
    isplitl [Hcqs2]; · iexact Hcqs2
    isplitl [Hq]; · iexact Hq
    iexact Ho
  · subst h
    simp only [(by decide : ((3 : Dev nD) = 0) = False), (by decide : ((3 : Dev nD) = 1) = False), (by decide : ((3 : Dev nD) = 2) = False), dite_true, dite_false, dite_cond_eq_false, dite_cond_eq_true, Prog.bind_op, Prog.bind_ret]
    iapply (wp_load_slice 𝒱₀ ((3 : Dev nD) : Thread nD τ) (m := qM) (r := qR 3) (hr := fun _ => rfl)) $$ Hq
    iintro Hq
    iapply (wp_load_slice 𝒱₀ ((3 : Dev nD) : Thread nD τ) (m := oM) (r := oR 3) (hr := fun _ => rfl)) $$ Ho
    iintro Ho
    iapply (wp_store_slice 𝒱₀ ((3 : Dev nD) : Thread nD τ) (m := oM) (r := oR 3) (hr := fun _ => rfl)) $$ Ho
    iintro Ho
    iapply Hk
    isplitl [HO]; · iexact HO
    isplitl [Hcqs2]; · iexact Hcqs2
    isplitl [Hq]; · iexact Hq
    iexact Ho

end Cert.KernelIdeal.Prf

end
-- ==== Proof.KernelIdeal.Body.lean ====
/- The kernel's body on a device, from its parts. -/
module

public import proofs.«01_k».proof.Proof.KernelIdeal.Splits
public import proofs.«01_k».proof.Proof.KernelIdeal.Blocks
public import proofs.«01_k».proof.Proof.KernelIdeal.Head
public import proofs.«01_k».proof.Proof.KernelIdeal.Maxima
public import proofs.«01_k».proof.Proof.KernelIdeal.Chunks
public import proofs.«01_k».proof.Proof.KernelIdeal.Mine

@[expose] public section

noncomputable section

namespace Cert.KernelIdeal.Prf

open Cert.KernelIdeal Cert.KernelIdeal.Gen Cert.Own
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → S1024x4096.Idx → Elt F .f32) (W : Dev nD → S4096x2048.Idx → Elt F .f32)
variable (c : Dev nD) {α : Type} {Q : α → sProp (MT nD τ sig Unit (Elt F) ℕ UU ℕ)}

/-- The tokens a device pays with; -/
def toks (c : Dev nD) : sProp 𝕄 := iprop(dutyTok ER (barC (tgt 0 c)) 0 2 ∗ dutyTok ER (barC (tgt 1 c)) 0 1 ∗ dutyTok ER (barC (tgt 2 c)) 0 0 ∗ dutyTok ER (dC (asSem 0) c) 0 0 ∗ dutyTok ER (dC (asSem 1) c) 0 0 ∗ dutyTok ER (dC (asSem 2) c) 0 0 ∗ dutyTok ER (dC (arSem 0) (tgt 0 c)) 0 0 ∗ dutyTok ER (dC (arSem 1) (tgt 1 c)) 0 0 ∗ dutyTok ER (dC (arSem 2) (tgt 2 c)) 0 0 ∗ dutyTok ER (dC (qsSem 0) c) 0 0 ∗ dutyTok ER (dC (qsSem 1) c) 0 0 ∗ dutyTok ER (dC (qsSem 2) c) 0 0 ∗ dutyTok ER (dC (qrSem 0) (tgt 0 c)) 0 0 ∗ dutyTok ER (dC (qrSem 1) (tgt 1 c)) 0 0 ∗ dutyTok ER (dC (qrSem 2) (tgt 2 c)) 0 0)
/-- its places at its own cells; -/
def places (c : Dev nD) : sProp 𝕄 := iprop(atPos ER (barC c) 0 ∅ 0 ∗ atPos ER (dC (qsSem 0) c) 0 ∅ 0 ∗ atPos ER (dC (qsSem 1) c) 0 ∅ 0 ∗ atPos ER (dC (qsSem 2) c) 0 ∅ 0 ∗ atPos ER (dC (qrSem 0) c) 0 ∅ 0 ∗ atPos ER (dC (qrSem 1) c) 0 ∅ 0 ∗ atPos ER (dC (qrSem 2) c) 0 ∅ 0 ∗ atPos ER (dC (asSem 0) c) 0 ∅ 0 ∗ atPos ER (dC (asSem 1) c) 0 ∅ 0 ∗ atPos ER (dC (asSem 2) c) 0 ∅ 0 ∗ atPos ER (dC (arSem 0) c) 0 ∅ 0 ∗ atPos ER (dC (arSem 1) c) 0 ∅ 0 ∗ atPos ER (dC (arSem 2) c) 0 ∅ 0)
/-- the credits it waits with; -/
def creds (c : Dev nD) : sProp 𝕄 := iprop(cred (tallyAt (barC c) () 3) ∗ cred (tallyAt (dC (arSem 0) c) () NA) ∗ cred (tallyAt (dC (arSem 1) c) () NA) ∗ cred (tallyAt (dC (arSem 2) c) () NA) ∗ cred (tallyAt (dC (qrSem 0) c) () NQ) ∗ cred (tallyAt (dC (qrSem 1) c) () NQ) ∗ cred (tallyAt (dC (qrSem 2) c) () NQ))
/-- its cells at rest, apart from the weights' two; -/
def rests (c : Dev nD) : sProp 𝕄 := iprop(semVal (barC c) 0 ∗ semVal (dC (qsSem 0) c) 0 ∗ semVal (dC (qsSem 1) c) 0 ∗ semVal (dC (qsSem 2) c) 0 ∗ semVal (dC (qrSem 0) c) 0 ∗ semVal (dC (qrSem 1) c) 0 ∗ semVal (dC (qrSem 2) c) 0 ∗ semVal (dC (asSem 0) c) 0 ∗ semVal (dC (asSem 1) c) 0 ∗ semVal (dC (asSem 2) c) 0 ∗ semVal (dC (arSem 0) c) 0 ∗ semVal (dC (arSem 1) c) 0 ∗ semVal (dC (arSem 2) c) 0)
/-- the weights' two; -/
def wrests (c : Dev nD) : sProp 𝕄 := iprop(semVal (dC (wSem 0) c) 0 ∗ semVal (dC (wSem 1) c) 0)
/-- and its scratch. -/
def scr (c : Dev nD) : sProp 𝕄 := iprop((∃ Z, owns (c : Thread nD τ) xbM fullShare Z) ∗ (∃ Z, owns (c : Thread nD τ) wbM fullShare Z) ∗ (∃ Z, owns (c : Thread nD τ) wcM fullShare Z) ∗ (∃ Z, owns (c : Thread nD τ) yM fullShare Z) ∗ (∃ Z, owns (c : Thread nD τ) qM fullShare Z) ∗ (∃ Z, owns (c : Thread nD τ) qiM fullShare Z) ∗ (∃ Z, owns (c : Thread nD τ) amM fullShare Z) ∗ (∃ Z, owns (c : Thread nD τ) arM fullShare Z))

/-- The body of the kernel on a device: from its own block and the weights, its columns of the result. -/
theorem wp_body (K : Dev nD × Fin 13 → ℕ) {Q : PUnit → sProp (MT nD τ sig Unit (Elt F) ℕ UU ℕ)} :
    iprop(invs X W K ∗ levAts L lv ∗ ow c 9 ∗ toks c ∗ places c ∗ creds c ∗ wrests c ∗ owns (c : Thread nD τ) xM fullShare (X c) ∗ owns (c : Thread nD τ) wM fullShare (W c) ∗ (∃ Z, owns (c : Thread nD τ) oM fullShare Z) ∗ scr c)
      ⊢ iprop((iprop(ow c 0 ∗ rests c ∗ wrests c ∗ owns (c : Thread nD τ) xM fullShare (X c) ∗ owns (c : Thread nD τ) wM fullShare (W c) ∗ owns (c : Thread nD τ) oM fullShare (outAt X W c) ∗ scr c) -∗ Q ⟨⟩)
          -∗ wp frame (wpE (defs₀ (F := F)) 𝒱₀ (c : Thread nD τ) none) Set.univ (cc0_body xM (Memref.isWhole_whole _) wM (Memref.isWhole_whole _) oM (Memref.isWhole_whole _) xbM (Memref.isWhole_whole _) wbM (Memref.isWhole_whole _) wcM (Memref.isWhole_whole _) yM (Memref.isWhole_whole _) qM (Memref.isWhole_whole _) qiM (Memref.isWhole_whole _) amM (Memref.isWhole_whole _) arM (Memref.isWhole_whole _) cc0_scratch8 cc0_scratch9 cc0_scratch10 cc0_scratch11 cc0_scratch12) Q) := by
  rw [cc0_body_eq_skeleton]
  unfold cc0_body_skel
  unfold toks places creds wrests rests scr
  iintro ⟨#HI, #Hl, HO, ⟨Htb0, Htb1, Htb2, Htas0, Htas1, Htas2, Htar0, Htar1, Htar2, Htqs0, Htqs1, Htqs2, Htqr0, Htqr1, Htqr2⟩, ⟨Hpb, Hpqs0, Hpqs1, Hpqs2, Hpqr0, Hpqr1, Hpqr2, Hpas0, Hpas1, Hpas2, Hpar0, Hpar1, Hpar2⟩, ⟨Hcb, Hcar0, Hcar1, Hcar2, Hcqr0, Hcqr1, Hcqr2⟩, ⟨Hz0, Hz1⟩, Hx, Hw, Ho, Hxb, Hwb, Hwc, Hy, Hq, Hqi, Hm, Har⟩ Hk
  ihave Hw := (cut_w W c) $$ Hw
  icases Hw with ⟨Hw0, Hw1, Hw2, Hw3, Hw4, Hw5, Hw6, Hw7⟩
  ihave Hwb := (cut_wb c) $$ Hwb
  icases Hwb with ⟨Hb0, Hb1⟩
  ihave Hwc := (cut_wc c) $$ Hwc
  icases Hwc with ⟨Hc0, Hc1⟩
  ihave Hy := (cut_y c) $$ Hy
  icases Hy with ⟨Hy0, Hy1, Hy2, Hy3, Hy4, Hy5, Hy6, Hy7⟩
  ihave Hq := (cut_q c) $$ Hq
  icases Hq with ⟨Hq0, Hq1, Hq2, Hq3⟩
  ihave Hqi := (cut_qi c) $$ Hqi
  icases Hqi with ⟨Hi0, Hi1, Hi2⟩
  ihave Har := (cut_ar c) $$ Har
  icases Har with ⟨Ha0, Ha1, Ha2⟩
  ihave Ho := (cut_o c) $$ Ho
  icases Ho with ⟨Hoc, Ho0, Ho1, Ho2⟩
  iapply (wp_part1 X W c K) $$ [HO Hw0 Hw1 Hb0 Hb1 Hz0 Hz1 Htb0 Ha2 Hi2]
  · isplitr; · iexact HI
    isplitl [HO]; · iexact HO
    isplitl [Hw0]; · iexact Hw0
    isplitl [Hw1]; · iexact Hw1
    isplitl [Hb0]; · iexact Hb0
    isplitl [Hb1]; · iexact Hb1
    isplitl [Hz0]; · iexact Hz0
    isplitl [Hz1]; · iexact Hz1
    isplitl [Htb0]; · iexact Htb0
    isplitl [Ha2]; · iexact Ha2
    iexact Hi2
  iintro ⟨HO, Hf0, Hf1⟩
  dsimp only
  iapply (wp_part2 X W c K _ _ _ _) $$ [HO Htb1 Ha1 Hi1 Htb2 Ha0 Hi0 Hx Hxb]
  · isplitr; · iexact HI
    isplitl [HO]; · iexact HO
    isplitl [Htb1]; · iexact Htb1
    isplitl [Ha1]; · iexact Ha1
    isplitl [Hi1]; · iexact Hi1
    isplitl [Htb2]; · iexact Htb2
    isplitl [Ha0]; · iexact Ha0
    isplitl [Hi0]; · iexact Hi0
    isplitl [Hx]; · iexact Hx
    iexact Hxb
  iintro ⟨HO, Hx, Hxb⟩
  dsimp only
  iapply (wp_part3 X W c) $$ [HO Hf0 Hw2 Hc0 Hxb Hy0]
  · isplitr; · iexact Hl
    isplitl [HO]; · iexact HO
    isplitl [Hf0]; · iexact Hf0
    isplitl [Hw2]; · iexact Hw2
    isplitl [Hc0]; · iexact Hc0
    isplitl [Hxb]; · iexact Hxb
    iexact Hy0
  iintro ⟨HO, Hf0, Hw0, Hc0, Hxb, Hy0⟩
  dsimp only
  iapply (wp_part4 X W c) $$ [HO Hf1 Hw3 Hc1 Hxb Hy1]
  · isplitr; · iexact Hl
    isplitl [HO]; · iexact HO
    isplitl [Hf1]; · iexact Hf1
    isplitl [Hw3]; · iexact Hw3
    isplitl [Hc1]; · iexact Hc1
    isplitl [Hxb]; · iexact Hxb
    iexact Hy1
  iintro ⟨HO, Hf1, Hw1, Hc1, Hxb, Hy1⟩
  dsimp only
  iapply (wp_part5 X W c) $$ [HO Hf0 Hw4 Hc0 Hxb Hy2]
  · isplitr; · iexact Hl
    isplitl [HO]; · iexact HO
    isplitl [Hf0]; · iexact Hf0
    isplitl [Hw4]; · iexact Hw4
    isplitl [Hc0]; · iexact Hc0
    isplitl [Hxb]; · iexact Hxb
    iexact Hy2
  iintro ⟨HO, Hf0, Hw2, Hc0, Hxb, Hy2⟩
  dsimp only
  iapply (wp_part6 X W c) $$ [HO Hf1 Hw5 Hc1 Hxb Hy3]
  · isplitr; · iexact Hl
    isplitl [HO]; · iexact HO
    isplitl [Hf1]; · iexact Hf1
    isplitl [Hw5]; · iexact Hw5
    isplitl [Hc1]; · iexact Hc1
    isplitl [Hxb]; · iexact Hxb
    iexact Hy3
  iintro ⟨HO, Hf1, Hw3, Hc1, Hxb, Hy3⟩
  dsimp only
  iapply (wp_part7 X W c) $$ [HO Hf0 Hw6 Hc0 Hxb Hy4]
  · isplitr; · iexact Hl
    isplitl [HO]; · iexact HO
    isplitl [Hf0]; · iexact Hf0
    isplitl [Hw6]; · iexact Hw6
    isplitl [Hc0]; · iexact Hc0
    isplitl [Hxb]; · iexact Hxb
    iexact Hy4
  iintro ⟨HO, Hf0, Hw4, Hc0, Hxb, Hy4⟩
  dsimp only
  iapply (wp_part8 X W c) $$ [HO Hf1 Hw7 Hc1 Hxb Hy5]
  · isplitr; · iexact Hl
    isplitl [HO]; · iexact HO
    isplitl [Hf1]; · iexact Hf1
    isplitl [Hw7]; · iexact Hw7
    isplitl [Hc1]; · iexact Hc1
    isplitl [Hxb]; · iexact Hxb
    iexact Hy5
  iintro ⟨HO, Hf1, Hw5, Hc1, Hxb, Hy5⟩
  dsimp only
  iapply (wp_part9 X W c) $$ [HO Hf0 Hf1 Hc0 Hxb Hy6]
  · isplitr; · iexact Hl
    isplitl [HO]; · iexact HO
    isplitl [Hf0]; · iexact Hf0
    isplitl [Hf1]; · iexact Hf1
    isplitl [Hc0]; · iexact Hc0
    isplitl [Hxb]; · iexact Hxb
    iexact Hy6
  iintro ⟨HO, Hz0, Hb0, Hw6, Hz1, Hb1, Hw7, Hc0, Hxb, Hy6⟩
  dsimp only
  iapply (wp_part10 X W c K _) $$ [HO Hc1 Hxb Hy7 Hcb Hpb Hm]
  · isplitr; · iexact HI
    isplitr; · iexact Hl
    isplitl [HO]; · iexact HO
    isplitl [Hc1]; · iexact Hc1
    isplitl [Hxb]; · iexact Hxb
    isplitl [Hy7]; · iexact Hy7
    isplitl [Hcb]; · iexact Hcb
    isplitl [Hpb]; · iexact Hpb
    iexact Hm
  iintro %w10 ⟨HO, Hc1, Hxb, Hy7, Hzb, Hd0, Hd1, Hd2, Hm⟩
  dsimp only
  unfold barPay
  icases Hd0 with ⟨Hda0, Hdq0⟩
  icases Hd1 with ⟨Hda1, Hdq1⟩
  icases Hd2 with ⟨Hda2, Hdq2⟩
  ihave Hm := (thirds c _).1 $$ Hm
  icases Hm with ⟨Hm0, Hm1, Hm2⟩
  iapply (wp_part11 X W c K _ _) $$ [HO Hm0 Hda0 Htas0 Htar0 Hm1 Hda1 Htas1 Htar1]
  · isplitr; · iexact HI
    isplitl [HO]; · iexact HO
    isplitl [Hm0]; · iexact Hm0
    isplitl [Hda0]; · iexact Hda0
    isplitl [Htas0]; · iexact Htas0
    isplitl [Htar0]; · iexact Htar0
    isplitl [Hm1]; · iexact Hm1
    isplitl [Hda1]; · iexact Hda1
    isplitl [Htas1]; · iexact Htas1
    iexact Htar1
  iintro %w11 ⟨HO, Hcas0, Hcas1⟩
  dsimp only
  obtain ⟨a11, b11, d11, e11, f11⟩ := w11
  dsimp only
  iapply (wp_part12 X W c K _ _ _ _ _) $$ [HO Hm2 Hda2 Htas2 Htar2 Hcas0 Hpas0 Hcar0 Hpar0]
  · isplitr; · iexact HI
    isplitr; · iexact Hl
    isplitl [HO]; · iexact HO
    isplitl [Hm2]; · iexact Hm2
    isplitl [Hda2]; · iexact Hda2
    isplitl [Htas2]; · iexact Htas2
    isplitl [Htar2]; · iexact Htar2
    isplitl [Hcas0]; · iexact Hcas0
    isplitl [Hpas0]; · iexact Hpas0
    isplitl [Hcar0]; · iexact Hcar0
    iexact Hpar0
  iintro %w12 ⟨HO, Hcas2, Hzas0, Has0, Hzar0, Ha0⟩
  dsimp only
  iapply (wp_part13 X W c K _ _) $$ [HO Hcas1 Hpas1 Hcar1 Hpar1 Hcas2 Hpas2 Hcar2 Hpar2]
  · isplitr; · iexact HI
    isplitr; · iexact Hl
    isplitl [HO]; · iexact HO
    isplitl [Hcas1]; · iexact Hcas1
    isplitl [Hpas1]; · iexact Hpas1
    isplitl [Hcar1]; · iexact Hcar1
    isplitl [Hpar1]; · iexact Hpar1
    isplitl [Hcas2]; · iexact Hcas2
    isplitl [Hpas2]; · iexact Hpas2
    isplitl [Hcar2]; · iexact Hcar2
    iexact Hpar2
  iintro ⟨HO, Hzas1, Has1, Hzar1, Ha1, Hzas2, Has2, Hzar2, Ha2⟩
  dsimp only
  ihave Hy := (join_yv X W c) $$ [Hy0 Hy1 Hy2 Hy3 Hy4 Hy5 Hy6 Hy7]
  · isplitl [Hy0]; · iexact Hy0
    isplitl [Hy1]; · iexact Hy1
    isplitl [Hy2]; · iexact Hy2
    isplitl [Hy3]; · iexact Hy3
    isplitl [Hy4]; · iexact Hy4
    isplitl [Hy5]; · iexact Hy5
    isplitl [Hy6]; · iexact Hy6
    iexact Hy7
  iapply (wp_part14 X W c) $$ [Ha2 Hy Hq0 Hq1]
  · isplitl [Ha2]; · iexact Ha2
    isplitl [Hy]; · iexact Hy
    isplitl [Hq0]; · iexact Hq0
    iexact Hq1
  iintro ⟨Ha2, Hy, Hq0, Hq1⟩
  dsimp only
  iapply (wp_part15 X W c _) $$ [Hy Hq2 Hq3]
  · isplitl [Hy]; · iexact Hy
    isplitl [Hq2]; · iexact Hq2
    iexact Hq3
  iintro %w15 ⟨Hy, Hq2, Hq3⟩
  dsimp only
  ihave Hq := (turn_q X W c) $$ [Hq0 Hq1 Hq2 Hq3]
  · isplitl [Hq0]; · iexact Hq0
    isplitl [Hq1]; · iexact Hq1
    isplitl [Hq2]; · iexact Hq2
    iexact Hq3
  icases Hq with ⟨Hqc, Hq0, Hq1, Hq2⟩
  iapply (wp_part16 X W c K _) $$ [HO Hq0 Hdq0 Htqs0 Htqr0 Hq1 Hdq1 Htqs1 Htqr1]
  · isplitr; · iexact HI
    isplitl [HO]; · iexact HO
    isplitl [Hq0]; · iexact Hq0
    isplitl [Hdq0]; · iexact Hdq0
    isplitl [Htqs0]; · iexact Htqs0
    isplitl [Htqr0]; · iexact Htqr0
    isplitl [Hq1]; · iexact Hq1
    isplitl [Hdq1]; · iexact Hdq1
    isplitl [Htqs1]; · iexact Htqs1
    iexact Htqr1
  iintro %w16 ⟨HO, Hcqs0, Hcqs1⟩
  dsimp only
  obtain ⟨a16, b16, d16, e16, f16⟩ := w16
  dsimp only
  iapply (wp_part17 X W c K 0#32 _ _ _ _) $$ [HO Hq2 Hdq2 Htqs2 Htqr2 Hqc Hoc]
  · isplitr; · iexact HI
    isplitl [HO]; · iexact HO
    isplitl [Hq2]; · iexact Hq2
    isplitl [Hdq2]; · iexact Hdq2
    isplitl [Htqs2]; · iexact Htqs2
    isplitl [Htqr2]; · iexact Htqr2
    isplitl [Hqc]; · iexact Hqc
    iexact Hoc
  iintro %w17 ⟨HO, Hcqs2, Hqc, Hoc⟩
  dsimp only
  iapply (wp_part18 X W c K _ _) $$ [HO Hcqs0 Hpqs0 Hcqr0 Hpqr0 Ho0]
  · isplitr; · iexact HI
    isplitr; · iexact Hl
    isplitl [HO]; · iexact HO
    isplitl [Hcqs0]; · iexact Hcqs0
    isplitl [Hpqs0]; · iexact Hpqs0
    isplitl [Hcqr0]; · iexact Hcqr0
    isplitl [Hpqr0]; · iexact Hpqr0
    iexact Ho0
  iintro ⟨HO, Hzqs0, Hq0, Hzqr0, Hi0, Ho0⟩
  dsimp only
  iapply (wp_part19 X W c K _ _) $$ [HO Hcqs1 Hpqs1 Hcqr1 Hpqr1 Ho1]
  · isplitr; · iexact HI
    isplitr; · iexact Hl
    isplitl [HO]; · iexact HO
    isplitl [Hcqs1]; · iexact Hcqs1
    isplitl [Hpqs1]; · iexact Hpqs1
    isplitl [Hcqr1]; · iexact Hcqr1
    isplitl [Hpqr1]; · iexact Hpqr1
    iexact Ho1
  iintro ⟨HO, Hzqs1, Hq1, Hzqr1, Hi1, Ho1⟩
  dsimp only
  iapply (wp_part20 X W c K _ _) $$ [HO Hcqs2 Hpqs2 Hcqr2 Hpqr2]
  · isplitr; · iexact HI
    isplitr; · iexact Hl
    isplitl [HO]; · iexact HO
    isplitl [Hcqs2]; · iexact Hcqs2
    isplitl [Hpqs2]; · iexact Hpqs2
    isplitl [Hcqr2]; · iexact Hcqr2
    iexact Hpqr2
  iintro ⟨HO, Hzqs2, Hq2, Hzqr2, Hi2⟩
  dsimp only
  simp only [Prog.lift, Prog.bind_op, Prog.bind_ret, Prog.pure_eq_ret]
  icases Ho2 with ⟨%Zo, Ho2⟩
  ihave Ho2 := (Entails.of_eq (owns_off (c : Thread nD τ) oM fullShare (off2_2 c).symm (oR_fits (src 2 c)) (k0_off2_inb c 2) (fun _ => rfl) (fun _ => rfl) Zo)) $$ Ho2
  iapply (wp_load_slice 𝒱₀ (c : Thread nD τ) (m := oM) (r := Rect.unit (s := S4096x512) (k0_off2 c 3#32) S1024x512.size (k0_off2_inb c 2)) (hr := fun _ => rfl)) $$ Ho2
  iintro Ho2
  iapply (wp_store_slice 𝒱₀ (c : Thread nD τ) (m := oM) (r := Rect.unit (s := S4096x512) (k0_off2 c 3#32) S1024x512.size (k0_off2_inb c 2)) (hr := fun _ => rfl)) $$ Ho2
  iintro Ho2
  ihave Ho2 := (Entails.of_eq (owns_off (c : Thread nD τ) oM fullShare (off2_2 c) (k0_off2_inb c 2) (oR_fits (src 2 c)) (fun _ => rfl) (fun _ => rfl) _)) $$ Ho2
  rw [wp_ret]
  imodintro
  ihave Ho := (join_ov X W c) $$ [Hoc Ho0 Ho1 Ho2]
  · isplitl [Hoc]; · iexact Hoc
    isplitl [Ho0]; · iexact Ho0
    isplitl [Ho1]; · iexact Ho1
    iexact Ho2
  ihave Hw := (join_w W c) $$ [Hw0 Hw1 Hw2 Hw3 Hw4 Hw5 Hw6 Hw7]
  · isplitl [Hw0]; · iexact Hw0
    isplitl [Hw1]; · iexact Hw1
    isplitl [Hw2]; · iexact Hw2
    isplitl [Hw3]; · iexact Hw3
    isplitl [Hw4]; · iexact Hw4
    isplitl [Hw5]; · iexact Hw5
    isplitl [Hw6]; · iexact Hw6
    iexact Hw7
  ihave Hwb := (join_wb c) $$ [Hb0 Hb1]
  · isplitl [Hb0]; · iexact Hb0
    iexact Hb1
  ihave Hwc := (join_wc c) $$ [Hc0 Hc1]
  · isplitl [Hc0]; · iexact Hc0
    iexact Hc1
  unfold qsPay asPay
  ihave Hqb := (join_qt c) $$ [Hqc Hq0 Hq1 Hq2]
  · isplitl [Hqc]; · iexists _; iexact Hqc
    isplitl [Hq0]; · iexists _; iexact Hq0
    isplitl [Hq1]; · iexists _; iexact Hq1
    iexists _; iexact Hq2
  ihave Hqi := (join_qi c) $$ [Hi0 Hi1 Hi2]
  · isplitl [Hi0]; · iexists _; iexact Hi0
    isplitl [Hi1]; · iexists _; iexact Hi1
    iexists _; iexact Hi2
  ihave Har := (join_ar c) $$ [Ha0 Ha1 Ha2]
  · isplitl [Ha0]; · iexists _; iexact Ha0
    isplitl [Ha1]; · iexists _; iexact Ha1
    iexists _; iexact Ha2
  ihave Hm := (thirds c _).2 $$ [Has0 Has1 Has2]
  · isplitl [Has0]; · iexact Has0
    isplitl [Has1]; · iexact Has1
    iexact Has2
  iapply Hk
  isplitl [HO]; · iexact HO
  isplitl [Hzb Hzqs0 Hzqs1 Hzqs2 Hzqr0 Hzqr1 Hzqr2 Hzas0 Hzas1 Hzas2 Hzar0 Hzar1 Hzar2]
  · isplitl [Hzb]; · iexact Hzb
    isplitl [Hzqs0]; · iexact Hzqs0
    isplitl [Hzqs1]; · iexact Hzqs1
    isplitl [Hzqs2]; · iexact Hzqs2
    isplitl [Hzqr0]; · iexact Hzqr0
    isplitl [Hzqr1]; · iexact Hzqr1
    isplitl [Hzqr2]; · iexact Hzqr2
    isplitl [Hzas0]; · iexact Hzas0
    isplitl [Hzas1]; · iexact Hzas1
    isplitl [Hzas2]; · iexact Hzas2
    isplitl [Hzar0]; · iexact Hzar0
    isplitl [Hzar1]; · iexact Hzar1
    iexact Hzar2
  isplitl [Hz0 Hz1]
  · isplitl [Hz0]; · iexact Hz0
    iexact Hz1
  isplitl [Hx]; · iexact Hx
  isplitl [Hw]; · iexact Hw
  isplitl [Ho]; · iexact Ho
  isplitl [Hxb]; · iexists _; iexact Hxb
  isplitl [Hwb]; · iexact Hwb
  isplitl [Hwc]; · iexact Hwc
  isplitl [Hy]; · iexists _; iexact Hy
  isplitl [Hqb]; · iexact Hqb
  isplitl [Hqi]; · iexact Hqi
  isplitl [Hm]; · iexists _; iexact Hm
  iexact Har

end Cert.KernelIdeal.Prf

end
-- ==== Proof.KernelIdeal.Mint.lean ====
/- The launch's set-up: the cells' invariants, the tokens dealt around the devices, the credits. -/
module

public import proofs.«01_k».proof.Proof.KernelIdeal.Body
public import Idealize.ShloMosaic.Lib.Pipeline.Kit

@[expose] public section

noncomputable section

namespace Cert.KernelIdeal.Prf

open Cert.KernelIdeal Cert.KernelIdeal.Gen Cert.Own
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → S1024x4096.Idx → Elt F .f32) (W : Dev nD → S4096x2048.Idx → Elt F .f32)
variable (c : Dev nD) {α : Type} {Q : α → sProp (MT nD τ sig Unit (Elt F) ℕ UU ℕ)}

/-! ## The cells and the tokens -/

abbrev osem : Fin 14 → SemLoc sig := fun k => .dma ⟨2 + k.val, by have := k.isLt; show 2 + k.val < 16; omega⟩
theorem ownSemFacts : Pipeline.OwnSemFacts cfg0.spec osem := by decide

theorem kcell_injective : Function.Injective (kcell : Dev nD × Fin 13 → GSem nD τ sig) := by
  rintro ⟨c, k⟩ ⟨c', k'⟩ h
  have h1 : c = c' := congrArg (fun g : GSem nD τ sig => g.1.1) h
  subst h1
  have h2 : csem k = csem k' := congrArg Prod.snd h
  have h3 : ∀ k k' : Fin 13, csem k = csem k' → k = k' := by decide
  rw [h3 k k' h2]
def kcells : Finset (GSem nD τ sig) := Finset.univ.map ⟨kcell, kcell_injective⟩

/-- Of the tokens minted for a device's cells, the cell; -/
abbrev tcell : Fin 15 → SemLoc sig := fun j => if j.val < 3 then .reg barS else .dma ⟨1 + j.val, by have := j.isLt; show 1 + j.val < 16; omega⟩
/-- and the duty. -/
abbrev tduty : Fin 15 → Fin 3 := fun j => if h : j.val < 3 then ⟨j.val, h⟩ else 0
abbrev tokOf (cj : Dev nD × Fin 15) : GSem nD τ sig × ℕ × Fin 3 := (((cj.1 : Thread nD τ), tcell cj.2), 0, tduty cj.2)
theorem tokOf_injective : Function.Injective (tokOf : Dev nD × Fin 15 → GSem nD τ sig × ℕ × Fin 3) := by
  rintro ⟨c, j⟩ ⟨c', j'⟩ h
  have h1 : c = c' := congrArg (fun x : GSem nD τ sig × ℕ × Fin 3 => x.1.1.1) h
  subst h1
  have h2 : tcell j = tcell j' := congrArg (fun x : GSem nD τ sig × ℕ × Fin 3 => x.1.2) h
  have h3 : tduty j = tduty j' := congrArg (fun x : GSem nD τ sig × ℕ × Fin 3 => x.2.2) h
  have h4 : ∀ j j' : Fin 15, tcell j = tcell j' → tduty j = tduty j' → j = j' := by decide
  rw [h4 j j' h2 h3]
def ktoks : Finset (GSem nD τ sig × ℕ × Fin 3) := Finset.univ.map ⟨tokOf, tokOf_injective⟩

def u₀ : UU := (initOf (Pipeline.cells cfgs cellOf_inj) (Pipeline.launchToks cfgs cellOf_inj), (initOf kcells ktoks, 1))

/-- The tokens of a device's own cells. -/
def mint (c : Dev nD) : sProp 𝕄 := iprop(dutyTok ER (barC c) 0 0 ∗ dutyTok ER (barC c) 0 1 ∗ dutyTok ER (barC c) 0 2 ∗ dutyTok ER (dC (qsSem 0) c) 0 0 ∗ dutyTok ER (dC (qsSem 1) c) 0 0 ∗ dutyTok ER (dC (qsSem 2) c) 0 0 ∗ dutyTok ER (dC (qrSem 0) c) 0 0 ∗ dutyTok ER (dC (qrSem 1) c) 0 0 ∗ dutyTok ER (dC (qrSem 2) c) 0 0 ∗ dutyTok ER (dC (asSem 0) c) 0 0 ∗ dutyTok ER (dC (asSem 1) c) 0 0 ∗ dutyTok ER (dC (asSem 2) c) 0 0 ∗ dutyTok ER (dC (arSem 0) c) 0 0 ∗ dutyTok ER (dC (arSem 1) c) 0 0 ∗ dutyTok ER (dC (arSem 2) c) 0 0)

theorem chain13 {M : Type} [URA M] (Φ : Fin 13 → sProp M) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12) :=
  bigSep_univ_eq_bigSepL [0, 1, 2, 3, 4, 5, 6, 7, 8, 9, 10, 11, 12] (by decide) (by decide) Φ
theorem chain15 {M : Type} [URA M] (Φ : Fin 15 → sProp M) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14) :=
  bigSep_univ_eq_bigSepL [0, 1, 2, 3, 4, 5, 6, 7, 8, 9, 10, 11, 12, 13, 14] (by decide) (by decide) Φ

theorem places_eq : (places c : sProp 𝕄) = bigSep Finset.univ fun k : Fin 13 => atPos ER (kcell (c, k)) 0 ∅ 0 := by
  rw [chain13]; unfold places; rfl
theorem rests_eq : (rests c : sProp 𝕄) = bigSep Finset.univ fun k : Fin 13 => semVal (kcell (c, k)) 0 := by
  rw [chain13]; unfold rests; rfl
theorem mint_eq : (mint c : sProp 𝕄) = bigSep Finset.univ fun j : Fin 15 => dutyTok ER (tokOf (c, j)).1 (tokOf (c, j)).2.1 (tokOf (c, j)).2.2 := by
  rw [chain15]; unfold mint; rfl

/-! ## What is dealt at the launch -/

def G (c : Dev nD) : sProp 𝕄 :=
  iprop((bigSep Finset.univ fun k : Fin 13 => roundState ER (Rd X W) (kcell (c, k)) 0)
    ∗ (places c ∗ bigSep Finset.univ fun k : Fin 13 => reached ER (kcell (c, k)) 0) ∗ mint c)

theorem fund_cells : BI.own (ER (initOf kcells ktoks)) ⊢ (|==> bigSep Finset.univ (G X W) : sProp 𝕄) := by
  have hX (Φ : GSem nD τ sig → sProp 𝕄) : bigSep kcells Φ = bigSep Finset.univ fun c : Dev nD => bigSep Finset.univ fun k : Fin 13 => Φ (kcell (c, k)) := by
    unfold kcells; rw [bigSep_map, bigSep_univ_prod]; rfl
  have hP : bigSep kcells (fun g => (atPos ER g 0 ∅ 0 : sProp 𝕄)) = bigSep Finset.univ fun c : Dev nD => places c := by
    rw [hX]; exact bigSep_congr fun c _ => (places_eq c).symm
  have hT : bigSep ktoks (fun x => (dutyTok ER x.1 x.2.1 x.2.2 : sProp 𝕄)) = bigSep Finset.univ fun c : Dev nD => mint c := by
    unfold ktoks; rw [bigSep_map, bigSep_univ_prod]
    exact bigSep_congr fun c _ => (mint_eq c).symm
  iintro HX
  imod (Rounds.fund ER (Rd X W) kcells ktoks) $$ HX with ⟨Hst, Hr, Hat, Htok⟩
  imodintro
  ihave Hst := (Entails.of_eq (hX fun g => roundState ER (Rd X W) g 0)) $$ Hst
  ihave Hat := (Entails.of_eq hP) $$ Hat
  ihave Hr := (Entails.of_eq (hX fun g => reached ER g 0)) $$ Hr
  ihave Htok := (Entails.of_eq hT) $$ Htok
  unfold G; simp only [bigSep_sep']
  isplitl [Hst]; · iexact Hst
  isplitl [Hat Hr]
  · isplitl [Hat] <;> iassumption
  iexact Htok

/-! ## The semaphores at rest -/

theorem ownSems0_eq : (Pipeline.ownSems0 (Ix := Unit) (Name := ℕ) (U := UU) (Lvl := ℕ) (Val := Elt F) (τ := τ) osem c : sProp 𝕄)
    = iprop(semVal (dC (wSem 0) c) 0 ∗ semVal (dC (wSem 1) c) 0 ∗ semVal (dC (qsSem 0) c) 0 ∗ semVal (dC (qsSem 1) c) 0 ∗ semVal (dC (qsSem 2) c) 0 ∗ semVal (dC (qrSem 0) c) 0 ∗ semVal (dC (qrSem 1) c) 0 ∗ semVal (dC (qrSem 2) c) 0 ∗ semVal (dC (asSem 0) c) 0 ∗ semVal (dC (asSem 1) c) 0 ∗ semVal (dC (asSem 2) c) 0 ∗ semVal (dC (arSem 0) c) 0 ∗ semVal (dC (arSem 1) c) 0 ∗ semVal (dC (arSem 2) c) 0) := by
  rw [Pipeline.ownSems0_eq_of_list c osem [0, 1, 2, 3, 4, 5, 6, 7, 8, 9, 10, 11, 12, 13] (by decide) (by decide)]; rfl
theorem unscopedSems0_eq : (unscopedSems0 c : sProp 𝕄) = semVal (barC c) 0 := by
  unfold unscopedSems0; rw [bigSep_eq_bigSepL_of_eq [SemLoc.reg barS] (by decide) (by decide)]; rfl

theorem sems_intro : (iprop(Pipeline.ownSems0 (Ix := Unit) (Name := ℕ) (U := UU) (Lvl := ℕ) (Val := Elt F) (τ := τ) osem c ∗ unscopedSems0 c) : sProp 𝕄)
    ⊢ iprop(wrests c ∗ rests c) := by
  rw [ownSems0_eq, unscopedSems0_eq]
  unfold wrests rests
  iintro ⟨⟨H0, H1, HR⟩, Hb⟩
  isplitl [H0 H1]
  · isplitl [H0] <;> iassumption
  isplitl [Hb]; · iexact Hb
  iexact HR
theorem sems_elim : (iprop(wrests c ∗ rests c) : sProp 𝕄)
    ⊢ iprop(unscopedSems0 c ∗ Pipeline.ownSems0 (Ix := Unit) (Name := ℕ) (U := UU) (Lvl := ℕ) (Val := Elt F) (τ := τ) osem c) := by
  rw [ownSems0_eq, unscopedSems0_eq]
  unfold wrests rests
  iintro ⟨⟨H0, H1⟩, Hb, HR⟩
  isplitl [Hb]; · iexact Hb
  isplitl [H0]; · iexact H0
  isplitl [H1]; · iexact H1
  iexact HR

/-! ## The invariants made, and the tokens dealt to the devices that pay with them -/

theorem alloc :
    iprop(Pipeline.ownSems0 (Ix := Unit) (Name := ℕ) (U := UU) (Lvl := ℕ) (Val := Elt F) (τ := τ) osem c ∗ unscopedSems0 c ∗ G X W c)
      ⊢ |={Set.univ}=> iprop((bigSep Finset.univ fun k : Fin 13 => iprop(∃ κ : ℕ, cellInv ER (Rd X W) κ (kcell (c, k))))
          ∗ (bigSep Finset.univ fun k : Fin 13 => reached ER (kcell (c, k)) 0) ∗ mint c ∗ places c ∗ wrests c) := by
  have hi : iprop(rests c ∗ bigSep Finset.univ fun k : Fin 13 => roundState ER (Rd X W) (kcell (c, k)) 0)
      ⊢ (|={Set.univ}=> bigSep Finset.univ fun k : Fin 13 => iprop(∃ κ : ℕ, cellInv ER (Rd X W) κ (kcell (c, k))) : sProp 𝕄) := by
    rw [rests_eq, ← bigSep_sep']
    exact (bigSep_mono fun k _ => (Rounds.body_intro ER (Rd X W) (kcell (c, k))).trans inv_alloc).trans (bigSep_fupd _ _)
  unfold G
  iintro ⟨Hos, Hus, Hst, ⟨Hat, Hr⟩, Htok⟩
  ihave Hv := (sems_intro (F := F) c) $$ [Hos Hus]
  · isplitl [Hos] <;> iassumption
  icases Hv with ⟨Hw, Hv⟩
  imod (hi) $$ [Hv Hst] with Hinv
  · isplitl [Hv] <;> iassumption
  imodintro
  isplitl [Hinv]; · iexact Hinv
  isplitl [Hr]; · iexact Hr
  isplitl [Htok]; · iexact Htok
  isplitl [Hat] <;> iassumption

/-- What a device starts from. -/
def G' (c : Dev nD) : sProp 𝕄 := iprop((∃ K, invs X W K) ∗ toks c ∗ places c ∗ wrests c)

/-- A turn of the devices. -/
def turn (k : Fin 3) : Dev nD ≃ Dev nD := ⟨tgt k, src k, src_tgt k, tgt_src k⟩

theorem deal : (bigSep Finset.univ fun c : Dev nD => (mint c : sProp 𝕄)) ⊢ bigSep Finset.univ fun c : Dev nD => toks c := by
  unfold mint toks
  simp only [bigSep_sep']
  rw [bigSep_univ_equiv (turn 2) (fun c : Dev nD => (dutyTok ER (barC c) 0 0 : sProp 𝕄)), bigSep_univ_equiv (turn 1) (fun c : Dev nD => (dutyTok ER (barC c) 0 1 : sProp 𝕄)), bigSep_univ_equiv (turn 0) (fun c : Dev nD => (dutyTok ER (barC c) 0 2 : sProp 𝕄)), bigSep_univ_equiv (turn 0) (fun c : Dev nD => (dutyTok ER (dC (qrSem 0) c) 0 0 : sProp 𝕄)), bigSep_univ_equiv (turn 1) (fun c : Dev nD => (dutyTok ER (dC (qrSem 1) c) 0 0 : sProp 𝕄)), bigSep_univ_equiv (turn 2) (fun c : Dev nD => (dutyTok ER (dC (qrSem 2) c) 0 0 : sProp 𝕄)), bigSep_univ_equiv (turn 0) (fun c : Dev nD => (dutyTok ER (dC (arSem 0) c) 0 0 : sProp 𝕄)), bigSep_univ_equiv (turn 1) (fun c : Dev nD => (dutyTok ER (dC (arSem 1) c) 0 0 : sProp 𝕄)), bigSep_univ_equiv (turn 2) (fun c : Dev nD => (dutyTok ER (dC (arSem 2) c) 0 0 : sProp 𝕄))]
  iintro ⟨Hb0, Hb1, Hb2, Hqs0, Hqs1, Hqs2, Hqr0, Hqr1, Hqr2, Has0, Has1, Has2, Har0, Har1, Har2⟩
  isplitl [Hb2]; · iexact Hb2
  isplitl [Hb1]; · iexact Hb1
  isplitl [Hb0]; · iexact Hb0
  isplitl [Has0]; · iexact Has0
  isplitl [Has1]; · iexact Has1
  isplitl [Has2]; · iexact Has2
  isplitl [Har0]; · iexact Har0
  isplitl [Har1]; · iexact Har1
  isplitl [Har2]; · iexact Har2
  isplitl [Hqs0]; · iexact Hqs0
  isplitl [Hqs1]; · iexact Hqs1
  isplitl [Hqs2]; · iexact Hqs2
  isplitl [Hqr0]; · iexact Hqr0
  isplitl [Hqr1]; · iexact Hqr1
  iexact Hqr2

theorem regroup : (bigSep Finset.univ fun c : Dev nD => iprop((bigSep Finset.univ fun k : Fin 13 => iprop(∃ κ : ℕ, cellInv ER (Rd X W) κ (kcell (c, k))))
          ∗ (bigSep Finset.univ fun k : Fin 13 => reached ER (kcell (c, k)) 0) ∗ mint c ∗ places c ∗ wrests c) : sProp 𝕄)
      ⊢ bigSep Finset.univ (G' X W) := by
  have hG (K : Dev nD × Fin 13 → ℕ) : iprop(invs X W K ∗ bigSep Finset.univ fun c : Dev nD => iprop(toks c ∗ places c ∗ wrests c)) ⊢ (bigSep Finset.univ (G' X W) : sProp 𝕄) := by
    refine (BIClass.sep_mono (BI.bigSep_of_persistent (Finset.univ : Finset (Dev nD)) (invs X W K)) (BI.Entails.refl _)).trans ?_
    rw [← bigSep_sep']
    refine bigSep_mono fun c _ => ?_
    show (iprop(invs X W K ∗ toks c ∗ places c ∗ wrests c) : sProp 𝕄) ⊢ iprop((∃ K, invs X W K) ∗ toks c ∗ places c ∗ wrests c)
    iintro ⟨HI, HR⟩
    isplitl [HI]
    · iexists K; iexact HI
    iexact HR
  simp only [bigSep_sep'] at hG ⊢
  rw [← bigSep_univ_prod (fun ck : Dev nD × Fin 13 => iprop(∃ κ : ℕ, cellInv ER (Rd X W) κ (kcell ck))),
    ← bigSep_univ_prod (fun ck : Dev nD × Fin 13 => (reached ER (kcell ck) 0 : sProp 𝕄))]
  iintro ⟨HI, HR, Htok, Hpl, Hw⟩
  ihave HK := (BI.bigSep_exists_pi Finset.univ (fun (ck : Dev nD × Fin 13) (κ : ℕ) => (cellInv ER (Rd X W) κ (kcell ck) : sProp 𝕄))) $$ HI
  icases HK with ⟨%K, HI⟩
  ihave Htk := (deal (F := F)) $$ Htok
  iapply (hG K)
  isplitl [HI HR]
  · unfold invs; isplitl [HI] <;> iassumption
  isplitl [Htk]; · iexact Htk
  isplitl [Hpl] <;> iassumption

theorem glob : (bigSep Finset.univ fun c => iprop(Pipeline.ownSems0 (Ix := Unit) (Name := ℕ) (U := UU) (Lvl := ℕ) (Val := Elt F) (τ := τ) osem c ∗ unscopedSems0 c ∗ G X W c) : sProp 𝕄)
    ⊢ |={Set.univ}=> bigSep Finset.univ (G' X W) :=
  ((bigSep_mono fun c _ => alloc X W c).trans (bigSep_fupd _ _)).trans (BI.fupd_mono (regroup X W))

/-! ## The credits at the launch -/

theorem owed_at (d : Dev nD) (g : GSem nD τ sig) (n : ℕ) : O d n g () = ∑ i ∈ Finset.range n, if pc d i = g then pa i else 0 := by
  induction n with
  | zero => rfl
  | succ n ih =>
    rw [O, Pi.add_apply, Finsupp.add_apply, tallyAt_apply, ih, Finset.sum_range_succ]
    congr 1
    by_cases h : pc d n = g
    · rw [if_pos h, if_pos ⟨h.symm, rfl⟩]
    · rw [if_neg h, if_neg fun h' => h h'.1.symm]

/-- What the devices owe a cell, in all. -/
theorem owed_all (g : GSem nD τ sig) : (∑ d : Dev nD, O d 9 g ()) = ∑ p ∈ (Finset.univ : Finset (Dev nD × Fin 9)).filter (fun p => pc p.1 p.2.val = g), pa p.2.val := by
  rw [Finset.sum_filter, Fintype.sum_prod_type]
  refine Finset.sum_congr rfl fun d _ => ?_
  rw [owed_at, Finset.sum_range]

theorem credit_at (g : GSem nD τ sig) (n : ℕ) (h : (∑ p ∈ (Finset.univ : Finset (Dev nD × Fin 9)).filter (fun p => pc p.1 p.2.val = g), pa p.2.val) = n) :
    tallyOn g (launchCredit (Pipeline.owing fun c : Dev nD => O c 9) 0 g) = (tallyAt g () n : CellTallies nD τ sig Unit) := by
  unfold tallyAt; refine congrArg _ (Finsupp.ext fun u => ?_); cases u
  rw [Pipeline.launchCredit_owing, Finsupp.single_eq_same, owed_all, h]

theorem credit_bar : tallyOn (barC c) (launchCredit (Pipeline.owing fun c : Dev nD => O c 9) 0 (barC c)) = (tallyAt (barC c) () 3 : CellTallies nD τ sig Unit) := by
  refine credit_at _ _ ?_
  rw [show (Finset.univ : Finset (Dev nD × Fin 9)).filter (fun p => pc p.1 p.2.val = barC c) = {(src 0 c, 8), (src 1 c, 7), (src 2 c, 6)} from by revert c; decide +kernel,
    Finset.sum_insert (by revert c; decide), Finset.sum_insert (by revert c; decide), Finset.sum_singleton]
  rfl
theorem credit_ar (k : Fin 3) : tallyOn (dC (arSem k) c) (launchCredit (Pipeline.owing fun c : Dev nD => O c 9) 0 (dC (arSem k) c)) = (tallyAt (dC (arSem k) c) () NA : CellTallies nD τ sig Unit) := by
  refine credit_at _ _ ?_
  rw [show (Finset.univ : Finset (Dev nD × Fin 9)).filter (fun p => pc p.1 p.2.val = dC (arSem k) c) = {(src k c, ⟨5 - k.val, by omega⟩)} from by revert c k; decide +kernel,
    Finset.sum_singleton]
  fin_cases k <;> rfl
theorem credit_qr (k : Fin 3) : tallyOn (dC (qrSem k) c) (launchCredit (Pipeline.owing fun c : Dev nD => O c 9) 0 (dC (qrSem k) c)) = (tallyAt (dC (qrSem k) c) () NQ : CellTallies nD τ sig Unit) := by
  refine credit_at _ _ ?_
  rw [show (Finset.univ : Finset (Dev nD × Fin 9)).filter (fun p => pc p.1 p.2.val = dC (qrSem k) c) = {(src k c, ⟨2 - k.val, by omega⟩)} from by revert c k; decide +kernel,
    Finset.sum_singleton]
  fin_cases k <;> rfl

theorem creds_intro : (Pipeline.launchCred (fun c : Dev nD => O c 9) c : sProp 𝕄) ⊢ creds c := by
  unfold Pipeline.launchCred
  refine (BI.bigSep_subset (Finset.subset_univ [SemLoc.reg barS, .dma (arSem 0), .dma (arSem 1), .dma (arSem 2), .dma (qrSem 0), .dma (qrSem 1), .dma (qrSem 2)].toFinset)).trans ?_
  rw [bigSep_eq_bigSepL_of_eq [SemLoc.reg barS, .dma (arSem 0), .dma (arSem 1), .dma (arSem 2), .dma (qrSem 0), .dma (qrSem 1), .dma (qrSem 2)] rfl (by decide)]
  unfold creds
  rw [← credit_bar c, ← credit_ar c 0, ← credit_ar c 1, ← credit_ar c 2, ← credit_qr c 0, ← credit_qr c 1, ← credit_qr c 2]
  exact BI.Entails.refl _

end Cert.KernelIdeal.Prf

end
-- ==== Proof.KernelIdeal.Run.lean ====
/- The kernel's run: what every device ends with. -/
module

public import proofs.«01_k».proof.Proof.KernelIdeal.Mint
public import Idealize.ShloMosaic.Lib.Pipeline.CollectiveSegs

@[expose] public section

noncomputable section

namespace Cert.KernelIdeal.Prf

open Cert.KernelIdeal Cert.KernelIdeal.Gen Cert.Own
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (c : Dev nD)

variable (m : (ℓ : Loc nD τ sig) → Buf (Elt F) ℓ) (ρ : Dev nD → PrngReg)

/-! ## The contents -/

/-- A device's block of the first argument, as staged, and its copy of the second. -/
def xin (c : Dev nD) : S1024x4096.Idx → Elt F .f32 := (win0_0.blk (t0_0 : Fin cfg0.N)).view.read (Elt F) (m ((c : Thread nD τ).loc main_arg0))
def win (c : Dev nD) : S4096x2048.Idx → Elt F .f32 := m ((c : Thread nD τ).loc main_arg1)
/-- A device's columns of the result. -/
def outv (c : Dev nD) : S4096x512.Idx → Elt F .f32 := outAt (xin m) (win m) c

def start (c : Dev nD) : sProp 𝕄 := iprop(G' (xin m) (win m) c ∗ creds c ∗ levAts L lv ∗ owns (c : Thread nD τ) wM fullShare (win m c))
def Φ₀ (c : Dev nD) : sProp 𝕄 := iprop(start m c ∗ scr c)
def Φ₁ (c : Dev nD) : sProp 𝕄 := iprop(rests c ∗ wrests c ∗ owns (c : Thread nD τ) wM fullShare (win m c) ∗ scr c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xin m c
    | ⟨1, _⟩ => outv m c
  Φ t := match t with
    | ⟨0, _⟩ => Φ₀ m c
    | ⟨_ + 1, _⟩ => Φ₁ m c
  q _ := fullShare
  owed t := match t with
    | ⟨0, _⟩ => O c 9
    | ⟨_ + 1, _⟩ => 0

theorem scr_pts : (scr c : sProp 𝕄) = iprop((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f) ∗ (∃ f : Buf (Elt F) ((c : Thread nD τ).loc cc0_scratch3), ((c : Thread nD τ).loc cc0_scratch3) ↦{fullShare} f) ∗ (∃ f : Buf (Elt F) ((c : Thread nD τ).loc cc0_scratch4), ((c : Thread nD τ).loc cc0_scratch4) ↦{fullShare} f) ∗ (∃ f : Buf (Elt F) ((c : Thread nD τ).loc cc0_scratch5), ((c : Thread nD τ).loc cc0_scratch5) ↦{fullShare} f) ∗ (∃ f : Buf (Elt F) ((c : Thread nD τ).loc cc0_scratch6), ((c : Thread nD τ).loc cc0_scratch6) ↦{fullShare} f) ∗ (∃ f : Buf (Elt F) ((c : Thread nD τ).loc cc0_scratch7), ((c : Thread nD τ).loc cc0_scratch7) ↦{fullShare} f)) := by
  unfold scr; simp only [owns_whole]; rfl

theorem bigSep_two (Φ : Fin cfg0.W → sProp 𝕄) : bigSep Finset.univ Φ = iprop(Φ (0 : Fin 2) ∗ Φ (1 : Fin 2)) := bigSep_W0 Φ

theorem before_x (c : Dev nD) (d) : (dats m ρ 0 c).before (0 : Fin 2) t0_0 d = xin m c := by
  unfold Dat.before; rw [if_pos (fetch0_0 t0_0)]; rfl

/-! ## The body's obligation -/

def bodyPre (c : Dev nD) : sProp 𝕄 :=
  iprop(Φ₀ m c ∗ (dats m ρ 0 c).owesAt () (t0_0 : Fin cfg0.N).castSucc
    ∗ (∃ d, owns (c : Thread nD τ) xM fullShare ((dats m ρ 0 c).before (0 : Fin 2) t0_0 d))
    ∗ (∃ d, owns (c : Thread nD τ) oM fullShare ((dats m ρ 0 c).before (1 : Fin 2) t0_0 d)))
def bodyPost (c : Dev nD) : sProp 𝕄 :=
  iprop(Φ₁ m c ∗ (dats m ρ 0 c).owesAt () (t0_0 : Fin cfg0.N).succ ∗ owns (c : Thread nD τ) xM fullShare (xin m c) ∗ owns (c : Thread nD τ) oM fullShare (outv m c))

theorem obligation (c : Dev nD) : BodyObligation (dats (F := F) m ρ 0 c) (defs₀ (F := F)) 𝒱₀ () Set.univ := fun t => by
  rw [fin_N0 t, bigSep_two, bigSep_two]
  show bodyPre m ρ c ⊢ wp frame (wpE (defs₀ (F := F)) 𝒱₀ c none) Set.univ (cc0_body xM (Memref.isWhole_whole _) wM (Memref.isWhole_whole _) oM (Memref.isWhole_whole _) xbM (Memref.isWhole_whole _) wbM (Memref.isWhole_whole _) wcM (Memref.isWhole_whole _) yM (Memref.isWhole_whole _) qM (Memref.isWhole_whole _) qiM (Memref.isWhole_whole _) amM (Memref.isWhole_whole _) arM (Memref.isWhole_whole _) cc0_scratch8 cc0_scratch9 cc0_scratch10 cc0_scratch11 cc0_scratch12) (fun _ => bodyPost m ρ c)
  unfold bodyPre Φ₀ start G' Dat.owesAt Pipeline.owesWithin
  simp only [before_x]
  iintro ⟨⟨⟨⟨⟨%K, HI⟩, Ht, Hp, Hz⟩, Hc, Hl, Hw⟩, Hs⟩, ⟨%Ws, %hWs, HO⟩, ⟨%d0, Hx⟩, ⟨%d1, Ho⟩⟩
  iapply (wp_body (xin m) (win m) c K (Q := fun _ => bodyPost m ρ c)) $$ [HI Ht Hp Hz Hc Hl Hw Hs HO Hx Ho]
  · isplitl [HI]; · iexact HI
    isplitl [Hl]; · iexact Hl
    isplitl [HO]
    · unfold ow; iexists Ws; iexact HO
    isplitl [Ht]; · iexact Ht
    isplitl [Hp]; · iexact Hp
    isplitl [Hc]; · iexact Hc
    isplitl [Hz]; · iexact Hz
    isplitl [Hx]; · iexact Hx
    isplitl [Hw]; · iexact Hw
    isplitl [Ho]
    · iexists _; iexact Ho
    iexact Hs
  unfold bodyPost Φ₁ ow Dat.owesAt Pipeline.owesWithin
  iintro ⟨⟨%W', HO⟩, Hr, Hz, Hx, Hw, Ho, Hs⟩
  isplitl [Hr Hz Hw Hs]
  · isplitl [Hr]; · iexact Hr
    isplitl [Hz]; · iexact Hz
    isplitl [Hw] <;> iassumption
  isplitl [HO]
  · iexists W'
    isplitr; · ipureintro; exact fun _ _ => Or.inl trivial
    iexact HO
  isplitl [Hx]; · iexact Hx
  iexact Ho

/-! ## The launch's side conditions -/

theorem share_eq (c : Dev nD) (w : Fin cfg0.W) : (dats m ρ 0 c).share w = fullShare := by unfold Dat.share; split <;> rfl

theorem wM_pts : (owns (c : Thread nD τ) wM fullShare (win m c) : sProp 𝕄) = (((c : Thread nD τ).loc main_arg1) ↦{fullShare} m ((c : Thread nD τ).loc main_arg1)) := by
  rw [owns_whole]; rfl

theorem start_intro (c : Dev nD) :
    iprop(Pipeline.unscopedRestP Pipeline.Prefetch.none cfg0.spec c (fun b => m ((c : Thread nD τ).loc b)) ∗ levAts L lv
        ∗ Pipeline.launchCred (fun c : Dev nD => O c 9) c ∗ prngReg c (ρ c) ∗ G' (xin m) (win m) c)
      ⊢ |={Set.univ}=> iprop(start m c ∗ emp) := by
  rw [Pipeline.unscopedRestP_none, unscopedRest0_eq, ← wM_pts]
  iintro ⟨Hw, Hlev, Hcr, -, HG⟩
  ihave Hc := (creds_intro (F := F) c) $$ Hcr
  imodintro
  unfold start
  isplitl
  · isplitl [HG]; · iexact HG
    isplitl [Hc]; · iexact Hc
    isplitl [Hlev] <;> iassumption
  · iempintro

theorem enter (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq, ← scr_pts]
  unfold Φ₀
  iintro ⟨Hs, -, Hr⟩
  isplitl [Hs] <;> iassumption

theorem leave (c : Dev nD) :
    (dats m ρ 0 c).Φ (Fin.last cfg0.N) ⊢ iprop((unscopedSems0 c ∗ owns (c : Thread nD τ) wM fullShare (win m c)) ∗ Pipeline.ownSems0 osem c ∗ Pipeline.scopedRest cfg0.spec c) := by
  rw [show (dats m ρ 0 c).Φ (Fin.last cfg0.N) = Φ₁ m c from rfl, scopedRest0_eq, ← scr_pts]
  unfold Φ₁
  iintro ⟨Hr, Hz, Hw, Hs⟩
  ihave H := (sems_elim (F := F) c) $$ [Hr Hz]
  · isplitl [Hz] <;> iassumption
  icases H with ⟨Hu, Ho⟩
  isplitl [Hu Hw]
  · isplitl [Hu] <;> iassumption
  isplitl [Ho] <;> iassumption

theorem waits (c : Dev nD) : (levAts L lv : sProp 𝕄) ⊢ Pipeline.cellsWaits cfgs (dats m ρ) () 0 c :=
  Pipeline.cellsWaits_intro cfgs (dats m ρ) () 0 c fun w s t => by
    have h (n : ℕ) (hn : n = 9 ∨ n = 0) (q : DmaSem sig) (hq : lvl (.dma q) = 0) : (levAts L lv : sProp 𝕄) ⊢ MayWait (c : Thread nD τ) (.dma q) () (O c n) := by
      refine mayWait c (.dma q) n fun i hi => ?_
      rw [hq]
      rcases hn with rfl | rfl
      · exact (by decide : ∀ i < 9, 0 < pl i) i hi
      · exact absurd hi (Nat.not_lt_zero i)
    rcases t with ⟨_ | _, ht⟩
    · exact h 9 (Or.inl rfl) _ (by fin_cases w <;> fin_cases s <;> decide)
    · exact h 0 (Or.inr rfl) _ (by fin_cases w <;> fin_cases s <;> decide)

/-! ## The run -/

/-- What the windows' arrays hold when all is done. -/
def finalA (c : Dev nD) (w : Fin cfg0.W) : Buf (Elt F) ((cfg0.win w).arr.view.loc (c : Thread nD τ)) := (dats m ρ 0 c).arrAt w cfg0.N

set_option maxRecDepth 8000 in
/-- Every run ends with each device's result array at its columns of the result, its arguments as they were and every
    semaphore at rest. -/
theorem run_all : θ_run defs (onTc (τ := τ) (main (F := F))) (s₀ m ρ) (fun r =>
    (∀ c : Dev nD, (∀ w : Fin cfg0.W, r.2.mem ((cfg0.win w).arr.view.loc (c : Thread nD τ)) = finalA m ρ c w)
      ∧ r.2.mem ((c : Thread nD τ).loc main_arg1) = m ((c : Thread nD τ).loc main_arg1)) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := obligation m ρ) (hne := fun w => by fin_cases w <;> exact Nat.succ_pos _) (harr := arr_whole0) (hstage := stage_whole0) (hshare := share_eq m ρ)
    (hdistinct := winFacts0.arr_inj)
    (O₀ := fun c => O c 9) (howed₀ := fun _ => rfl) (howedN := fun _ => rfl)
    (L := L) (lv := lv) (hL := L_of_ne) (hwaits := waits m ρ)
    (G := G (xin m) (win m)) (G' := G' (xin m) (win m)) (u₀ := u₀)
    (hu₀ := by
      unfold u₀
      iintro Hu
      ihave H := (ownU_pair _ _) $$ Hu
      icases H with ⟨HP, HX⟩
      ihave HX := (Entails.of_eq (show (BI.own (embR ((initOf kcells ktoks, (1 : Counters)) : UB × Counters)) : sProp 𝕄) = BI.own (ER (initOf kcells ktoks)) from rfl)) $$ HX
      imod (fund_cells (xin m) (win m)) $$ HX with HG
      imodintro
      isplitl [HP] <;> iassumption)
    (hglob := glob (xin m) (win m))
    (hA := fun _ _ => rfl) (hpf := fun _ k => k.elim0)
    (X := start m) (Y := fun c => iprop(unscopedSems0 c ∗ owns (c : Thread nD τ) wM fullShare (win m c))) (Z := fun _ => iprop(emp))
    (hX := start_intro m ρ) (hin := enter m ρ) (hout := leave m ρ)
    (QY := fun c s => s.mem ((c : Thread nD τ).loc main_arg1) = m ((c : Thread nD τ).loc main_arg1)
      ∧ ∀ sm : SemLoc sig, sm.isScoped .tc = false → s.sem ((c.tc : Thread nD τ), sm) = 0)
    (hY := fun c s' => by
      rw [wM_pts]
      iintro ⟨⟨Hu, Hw⟩, -, HSI⟩
      icombine HSI Hw gives %hw
      imod (Pipeline.unscopedSems0_read (X := unscopedSems0 c) (c := c) fupd_intro s') $$ [Hu HSI] with ⟨%hs, HSI⟩
      · isplitl [Hu] <;> iassumption
      imodintro
      isplitr
      · ipureintro; exact ⟨Buf.eq_of_forall_mem_univ hw, hs⟩
      iexact HSI)
    (hQ := fun _ h hs => ⟨fun c => ⟨fun w => (h c).1 w, (h c).2.2.1⟩, sem_eq_zero hs fun c => (h c).2.2.2⟩)

theorem finalA_x (c : Dev nD) : finalA m ρ c (0 : Fin 2) = m ((c : Thread nD τ).loc main_arg0) :=
  (dats (F := F) m ρ 0 c).arrAt_in (0 : Fin 2) rfl _

/-- The arguments end as they were. -/
theorem frame : θ_run defs (onTc (τ := τ) (main (F := F))) ⟨m, fun _ => 0, ρ⟩ (fun r =>
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun _ h => ⟨fun c => ⟨((h.1 c).1 0).trans (finalA_x m ρ c), (h.1 c).2⟩, h.2⟩) (run_all m ρ)

end Cert.KernelIdeal.Prf

end
-- ==== Proof.Value.Arrays.lean ====
/- The kernel's run, read at its arrays: what each device's result ends holding. -/
module

public import proofs.«01_k».proof.Proof.KernelIdeal.Run

@[expose] public section

noncomputable section

namespace Cert.Value

open Cert.KernelIdeal Cert.KernelIdeal.Gen Cert.KernelIdeal.Prf
open Idealize.ShloMosaic Idealize.ShloMosaic.TcCoe Idealize.SL.Sem

variable {F : FTy → Type} [FloatOps F]
variable (m : (ℓ : Loc nD τ sig) → Buf (Elt F) ℓ) (ρ : Dev nD → PrngReg)

/-- The rows that the body reads are the device's argument array. -/
theorem xin_eq (c : Dev nD) : xin m c = m ((c : Thread nD τ).loc main_arg0) := by
  have hz : (fun a => (win0_0.index t0_0) a * main_arg0.ty.shape.size a) = fun _ => 0 := funext fun a => by fin_cases a <;> decide
  exact Memref.read_access_unit_zero (Elt F) main_arg0 hz (fun a => by fin_cases a <;> decide) _

/-- The result array ends holding what the body left. -/
theorem finalA_out (c : Dev nD) : finalA m ρ c (1 : Fin 2) = outv m c := by
  have hz : (fun a => (win0_1.index t0_0) a * main_v1.ty.shape.size a) = fun _ => 0 := funext fun a => by fin_cases a <;> decide
  refine (Memref.read_access_unit_zero (Elt F) main_v1 hz (fun a => by fin_cases a <;> decide) _).symm.trans ?_
  show (win0_1.blk t0_0).view.read (Elt F) (finalA m ρ c (1 : Fin 2)) = outv m c
  unfold finalA
  rw [show cfg0.N = (t0_0 : Fin cfg0.N).val + 1 from rfl, (dats m ρ 0 c).arrAt_succ (1 : Fin 2) t0_0]
  rw [show (cfg0.win (1 : Fin 2)).flush t0_0 = true from by decide, if_pos rfl]
  exact View.read_write_univ _ _

/-- The run: each device's result is `outAt` of all the devices' arguments, and the arguments end as they were. -/
theorem run : θ_run defs (onTc (τ := τ) (main (F := F))) ⟨m, fun _ => 0, ρ⟩ (fun r => ∀ c : Dev nD,
    r.2.mem ((c.tc : Thread nD τ).loc main_v1)
        = outAt (fun d : Dev nD => m ((d : Thread nD τ).loc main_arg0)) (fun d : Dev nD => m ((d : Thread nD τ).loc main_arg1)) c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h.1 c).1 1).trans ((finalA_out m ρ c).trans (by
      unfold outv
      rw [show xin m = fun d : Dev nD => m ((d : Thread nD τ).loc main_arg0) from funext fun d => xin_eq m d]
      rfl)), ((h.1 c).1 0).trans (finalA_x m ρ c), (h.1 c).2⟩) (run_all m ρ)

end Cert.Value

end
-- ==== Proof.Value.Peak.lean ====
/- The maximum that a whole array reduces to, at the extended reals: the array's supremum. -/
module

public import Idealize.ShloMosaic.PureOps.Ideal.Laws
public import Idealize.ShloMosaic.Lib.ValueLayout

@[expose] public section

noncomputable section

namespace Cert.Value

open Idealize.ShloMosaic Idealize.ShloMosaic.ValueIdx

/-- The absolute value, as the programs take it. -/
abbrev mag (x : EReal) : EReal := max x (-x)

theorem mag_nonneg (x : EReal) : 0 ≤ mag x := by
  rcases le_total 0 x with h | h
  · exact le_max_of_le_left h
  · exact le_max_of_le_right (by rw [EReal.le_neg]; simpa using h)

theorem bot_word : Ideal.ofBits .f32 0xFF800000#32 = ⊥ := by simp [Ideal.ofBits, Ideal.ieee]

/-- Folding the maximum over every index from the least value gives the supremum. -/
theorem fold_max_univ {ι : Type} [Fintype ι] (v : ι → EReal) : (Finset.univ : Finset ι).fold max ⊥ v = ⨆ i, v i := by
  refine eq_of_forall_ge_iff fun z => ?_
  rw [Finset.fold_max_le, iSup_le_iff]
  simp

/-- A cast between shapes renames the indices, and leaves the supremum. -/
theorem iSup_shapeCast {s t : Shape} (v : s.Idx → EReal) (h : s.ShapeCasts t) : (⨆ i, shapeCast t v h i) = ⨆ i, v i :=
  (Shape.reshapeEquiv h).iSup_comp (g := v)

/-- A cast to the same shape changes nothing. -/
theorem cast_self {α : Type} {s : Shape} (v : s.Idx → α) (h : s.ShapeCasts s) : shapeCast s v h = v :=
  funext fun i => congrArg v (Shape.reshapeEquiv_self h i)

/-- The reduction of a matrix over both its axes, as the programs print it. -/
theorem peak {A B : ℕ} (v : FVec Ideal ⟨2, ![A, B]⟩ .f32) (hc : (⟨2, ![A, B]⟩ : Shape).ShapeCasts ⟨3, ![1, A, B]⟩)
    (hr : (⟨3, ![1, A, B]⟩ : Shape).Reduces [1, 2] ⟨1, ![1]⟩) (hφ : FKind.Formats .f32) (hn : (0xFF800000#32 : BitVec 32) = FKind.maximumf.neutral .f32 hφ)
    (h1 : (⟨1, ![1]⟩ : Shape).ShapeCasts ⟨3, ![1, 1, 1]⟩) (hp : ∀ a, (![0, 0, 0] : Fin 3 → ℕ) a < (⟨3, ![1, 1, 1]⟩ : Shape).size a) :
    extractAt (s := ⟨3, ![1, 1, 1]⟩) ![0, 0, 0] (shapeCast ⟨3, ![1, 1, 1]⟩ (multiReduction .maximumf [1, 2] ⟨1, ![1]⟩ (shapeCast ⟨3, ![1, A, B]⟩ v hc) 0xFF800000#32 hr hφ hn) h1) hp
      = ⨆ i, v i := by
  show multiReduction .maximumf [1, 2] ⟨1, ![1]⟩ (shapeCast ⟨3, ![1, A, B]⟩ v hc) 0xFF800000#32 hr hφ hn _ = _
  rw [multiReduction_maximumf_eq_fold, Finset.filter_true_of_mem]
  · show Finset.univ.fold max (Ideal.ofBits .f32 0xFF800000#32) (shapeCast ⟨3, ![1, A, B]⟩ v hc) = _
    rw [bot_word, fold_max_univ, iSup_shapeCast]
  · intro i _
    funext b
    fin_cases b
    exact Subsingleton.elim (α := Fin 1) _ _

end Cert.Value

end
-- ==== Proof.Value.Product.lean ====
/- One device's product at the extended reals, and the reference's. -/
module

public import proofs.«01_k».proof.Proof.Value.Peak
public import proofs.«01_k».proof.Proof.KernelIdeal.Spec
public import proofs.«01_k».proof.Proof.Gen.ReferenceIdeal.Value
public import Idealize.ShloMosaic.Lib.MatmulPlain

@[expose] public section

noncomputable section

namespace Cert.Value

open Idealize.ShloMosaic Idealize.ShloMosaic.ValueIdx Cert.KernelIdeal Cert.KernelIdeal.Gen Cert.KernelIdeal.Prf Cert.Own

theorem dot_block : Cert.KernelIdeal.dot_S1024x4096_S4096x256_S1024x256_1_0_0_1_n_n = DotDims.plain 1024 4096 256 := rfl
theorem dot_whole : Cert.ReferenceIdeal.dot_S4096x4096_S4096x2048_S4096x2048_1_0_0_1_n_n = DotDims.plain 4096 4096 2048 := rfl

section Local
variable (X : S1024x4096.Idx → EReal) (W : S4096x2048.Idx → EReal)

theorem xbf_apply (i : S1024x4096.Idx) : xbf (F := Ideal) X i = X i := by
  show X (Shape.reshapeEquiv _ (Shape.reshapeEquiv _ i)) = X i
  simp only [Shape.reshapeEquiv_self]

theorem wbf_apply (b : Fin 8) (i : S4096x256.Idx) :
    shapeCast S4096x256 (wbf (F := Ideal) W b) shapeCasts_S1x4096x256_S4096x256 i = W ((wR b).emb i) := by
  show W ((wR b).emb ((Shape.reshapeEquiv _).symm (Shape.reshapeEquiv _ (Shape.reshapeEquiv _ (Shape.reshapeEquiv _ i))))) = _
  simp only [Shape.reshapeEquiv_symm, Shape.reshapeEquiv_reshapeEquiv, Shape.reshapeEquiv_self]

theorem yblk_matmul (b : Fin 8) :
    yblk (F := Ideal) X W b = FloatOps.matmul (F := Ideal) (DotDims.plain 1024 4096 256) none (φ₁ := .bf16) (φ₂ := .bf16) (xbf (F := Ideal) X)
      (shapeCast S4096x256 (wbf (F := Ideal) W b) shapeCasts_S1x4096x256_S4096x256) (constant S1024x256 .f32 0x00000000#32) := by
  unfold yblk k0_pay4 k0_pay3
  exact cast_self _ _

/-- A block of the product, entry by entry. -/
theorem yblk_apply (b : Fin 8) (r : Fin 1024) (j : Fin 256) :
    yblk (F := Ideal) X W b (ix2 r j) = ∑ k : Fin 4096, X (ix2 r k) * W ((wR b).emb (ix2 k j)) := by
  rw [yblk_matmul, Ideal.matmul_plain_apply]
  show Ideal.ofBits .f32 0x00000000#32 + _ = _
  rw [Ideal.ofBits_zero_f32, zero_add]
  exact Finset.sum_congr rfl fun k _ => by rw [xbf_apply, wbf_apply]

/-- The product, entry by entry. -/
theorem yv_apply (r : Fin 1024) (j : Fin 2048) : yv (F := Ideal) X W (ix2 r j) = ∑ k : Fin 4096, X (ix2 r k) * W (ix2 k j) := by
  show yblk (F := Ideal) X W ⟨j.val / 256, _⟩ (ix2 r ⟨j.val % 256, _⟩) = _
  rw [yblk_apply]
  refine Finset.sum_congr rfl fun k _ => congrArg (fun i => X (ix2 r k) * W i) ?_
  funext a
  apply Fin.ext
  fin_cases a
  · show 0 + 1 * k.val = k.val
    omega
  · show 256 * (j.val / 256) + 1 * (j.val % 256) = j.val
    omega

end Local

/-! ## The reference's -/

/-- The reference's product. -/
def prod (A : Cert.ReferenceIdeal.S4096x4096.Idx → EReal) (W : S4096x2048.Idx → EReal) : S4096x2048.Idx → EReal :=
  FloatOps.matmul (F := Ideal) (DotDims.plain 4096 4096 2048) none (φ₁ := .f32) (φ₂ := .f32) A W (constant S4096x2048 .f32 0x00000000#32)

theorem prod_apply (A : Cert.ReferenceIdeal.S4096x4096.Idx → EReal) (W : S4096x2048.Idx → EReal) (r : Fin 4096) (j : Fin 2048) :
    prod A W (ix2 r j) = ∑ k : Fin 4096, A (ix2 r k) * W (ix2 k j) := by
  unfold prod
  rw [Ideal.matmul_plain_apply]
  show Ideal.ofBits .f32 0x00000000#32 + _ = _
  rw [Ideal.ofBits_zero_f32, zero_add]

/-- What an entry `y` of the product becomes when the greatest magnitude is `g`. -/
def snap (g y : EReal) : EReal :=
  min (Ideal.ofBits .f32 0x43E00000#32) (max (Ideal.ofBits .f32 0xC3E00000#32) (Ideal.div y (Ideal.div g (Ideal.ofBits .f32 0x43E00000#32))))
    * Ideal.div g (Ideal.ofBits .f32 0x43E00000#32)

/-- The reference's result, entry by entry. -/
theorem ref_apply (A : Cert.ReferenceIdeal.S4096x4096.Idx → EReal) (W : S4096x2048.Idx → EReal) (i : S4096x2048.Idx) :
    Cert.ReferenceIdeal.Value.G2 (F := Ideal) A W i = snap (⨆ i, mag (prod A W i)) (prod A W i) := by
  rw [← peak (fun i => mag (prod A W i)) Cert.ReferenceIdeal.Facts₀.shapeCasts_S4096x2048_S1x4096x2048
    Cert.ReferenceIdeal.Facts₀.reduces_S1x4096x2048_S1 (.inl rfl) rfl Cert.ReferenceIdeal.Facts₀.shapeCasts_S1_S1x1x1 Cert.ReferenceIdeal.Facts₀.inpos_S1x1x1_p0_0_0]
  rfl

end Cert.Value

end
-- ==== Proof.Value.Scale.lean ====
/- The running maxima, what crosses the devices, and the common scale, at the extended reals. -/
module

public import proofs.«01_k».proof.Proof.Value.Product

@[expose] public section

noncomputable section

namespace Cert.Value

open Idealize.ShloMosaic Idealize.ShloMosaic.ValueIdx Cert.KernelIdeal Cert.KernelIdeal.Gen Cert.KernelIdeal.Prf Cert.Own

section Forms
variable {F : FTy → Type} [FloatOps F]

/-- The maximum of the magnitudes of a block, as the kernel takes it. -/
def bmax (v : FVec F S1024x256 .f32) : F .f32 :=
  extractAt (s := S1x1x1) ![0, 0, 0] (shapeCast S1x1x1 (multiReduction .maximumf [1, 2] S1 (shapeCast S1x1024x256 (absf v) Facts₀.shapeCasts_S1024x256_S1x1024x256)
    0xFF800000#32 Facts₀.reduces_S1x1024x256_S1 (.inl rfl) rfl) Facts₀.shapeCasts_S1_S1x1x1) Facts₀.inpos_S1x1x1_p0_0_0

/-- The maximum of a slot, likewise. -/
def smax (v : FVec F S1x8x128 .f32) : F .f32 :=
  extractAt (s := S1x1x1) ![0, 0, 0] (shapeCast S1x1x1 (multiReduction .maximumf [1, 2] S1
    (shapeCast S1x8x128 (shapeCast S8x128 v Facts₀.shapeCasts_S1x8x128_S8x128) Facts₀.shapeCasts_S8x128_S1x8x128)
    0xFF800000#32 Facts₀.reduces_S1x8x128_S1 (.inl rfl) rfl) Facts₀.shapeCasts_S1_S1x1x1) Facts₀.inpos_S1x1x1_p0_0_0

theorem pay5_form (x : Vec F S1024x4096 .bf16) (w : Vec F S1x4096x256 .bf16) :
    k0_pay5 x w = Scalar.maximumf (Scalar.ofBits .f32 0x00000000#32) (bmax (k0_pay3 x w)) := rfl
theorem pay9_form (g : F .f32) (x : Vec F S1024x4096 .bf16) (w : Vec F S1x4096x256 .bf16) :
    k0_pay9 g x w = Scalar.maximumf g (bmax (k0_pay3 x w)) := rfl
theorem pay35_form (g : F .f32) (x : Vec F S1024x4096 .bf16) (w : Vec F S1x4096x256 .bf16) (i : S8x128.Idx) :
    k0_pay35 g x w i = k0_pay9 g x w := rfl
theorem pay36_form (g : F .f32) (v : Vec F S1x8x128 .f32) : k0_pay36 g v = Scalar.maximumf g (smax v) := rfl
theorem pay37_form (g : F .f32) (v : Vec F S1x8x128 .f32) : k0_pay37 g v = Scalar.maximumf g (smax v) := rfl
theorem pay38_form (g : F .f32) (v : Vec F S1x8x128 .f32) :
    k0_pay38 g v = Scalar.divf (Scalar.maximumf g (smax v)) (Scalar.ofBits .f32 0x43E00000#32) := rfl

end Forms

theorem bmax_eq (v : FVec Ideal S1024x256 .f32) : bmax v = ⨆ i, mag (v i) :=
  peak (A := 1024) (B := 256) (absf v) _ _ _ _ _ _

/-- The maximum of a slot that holds one value everywhere. -/
theorem smax_eq (v : FVec Ideal S1x8x128 .f32) (k : EReal) (hv : ∀ i, v i = k) : smax v = k := by
  refine (peak (A := 8) (B := 128) (shapeCast S8x128 v Facts₀.shapeCasts_S1x8x128_S8x128) _ _ _ _ _ _).trans ?_
  rw [iSup_shapeCast, show v = fun _ => k from funext hv]
  haveI : Nonempty S1x8x128.Idx := ⟨ix3 (n0 := 1) (n1 := 8) (n2 := 128) 0 0 0⟩
  exact ciSup_const

section Local
variable (X : S1024x4096.Idx → EReal) (W : S4096x2048.Idx → EReal)

/-- The greatest magnitude of a block of the product. -/
def bpeak (b : Fin 8) : EReal := ⨆ i, mag (yblk (F := Ideal) X W b i)

theorem bmax_block (b : Fin 8) : bmax (k0_pay3 (F := Ideal) (xbf (F := Ideal) X) (wbf (F := Ideal) W b)) = bpeak X W b := by
  rw [bmax_eq, bpeak, yblk, k0_pay4, cast_self]

theorem am_zero : am (F := Ideal) X W 0 = max 0 (bpeak X W 0) := by
  rw [am, pay5_form, bmax_block, Ideal.scalar_maximumf_def]
  exact congrArg (max · _) Ideal.ofBits_zero_f32

theorem am_succ (n : ℕ) : am (F := Ideal) X W (n + 1) = max (am (F := Ideal) X W n) (bpeak X W (Fin.ofNat 8 (n + 1))) := by
  rw [am, pay9_form, bmax_block, Ideal.scalar_maximumf_def]

/-- The running maximum is below a bound that is not negative when every block so far is. -/
theorem am_le (n : ℕ) (hn : n < 8) (z : EReal) :
    am (F := Ideal) X W n ≤ z ↔ 0 ≤ z ∧ ∀ b : Fin 8, b.val ≤ n → bpeak X W b ≤ z := by
  induction n with
  | zero =>
    rw [am_zero, max_le_iff]
    refine and_congr_right fun _ => ⟨fun h b hb => ?_, fun h => h 0 (Nat.le_refl _)⟩
    rw [show b = 0 from Fin.ext (by simpa using hb)]
    exact h
  | succ n ih =>
    rw [am_succ, max_le_iff, ih (by omega)]
    refine ⟨fun ⟨⟨h0, h⟩, h'⟩ => ⟨h0, fun b hb => ?_⟩, fun ⟨h0, h⟩ => ⟨⟨h0, fun b hb => h b (by omega)⟩, h _ ?_⟩⟩
    · rcases Nat.lt_or_ge b.val (n + 1) with hlt | hge
      · exact h b (by omega)
      · rw [show b = Fin.ofNat 8 (n + 1) from Fin.ext (by show b.val = (n + 1) % 8; omega)]
        exact h'
    · show (n + 1) % 8 ≤ n + 1
      omega

/-- The greatest magnitude of the device's product. -/
def dpeak : EReal := ⨆ i, mag (yv (F := Ideal) X W i)

/-- The device's maximum is the greatest magnitude of its product. -/
theorem am_all : am (F := Ideal) X W 7 = dpeak X W := by
  refine eq_of_forall_ge_iff fun z => ?_
  rw [am_le X W 7 (by decide), dpeak, iSup_le_iff]
  constructor
  · intro ⟨_, h⟩ i
    refine le_trans ?_ (h ⟨(i 1).val / 256, Nat.div_lt_of_lt_mul (i 1).isLt⟩ (by show (i 1).val / 256 ≤ 7; have h1 : (i 1).val < 2048 := (i 1).isLt; omega))
    unfold yv bpeak
    exact le_iSup (fun j => mag (yblk (F := Ideal) X W ⟨(i 1).val / 256, _⟩ j)) _
  · intro h
    refine ⟨le_trans (mag_nonneg _) (h (ix2 (n0 := 1024) (n1 := 2048) 0 0)), fun b _ => iSup_le fun j => ?_⟩
    rw [← yblk_eq (F := Ideal) X W b j]
    exact h _

/-- What a receiver's slot holds of it: the same value everywhere. -/
theorem ambs_apply (i : S1x8x128.Idx) : ambs (F := Ideal) X W i = dpeak X W := by
  rw [← am_all]
  unfold ambs unsq amb
  rw [pay35_form]
  conv_rhs => rw [am]
  rfl

end Local

/-! ## The maximum over what was received -/

theorem pay36_eq (g : EReal) (v : S1x8x128.Idx → EReal) (k : EReal) (hv : ∀ i, v i = k) : k0_pay36 (F := Ideal) g v = max g k := by
  rw [pay36_form, smax_eq v k hv, Ideal.scalar_maximumf_def]
theorem pay37_eq (g : EReal) (v : S1x8x128.Idx → EReal) (k : EReal) (hv : ∀ i, v i = k) : k0_pay37 (F := Ideal) g v = max g k := by
  rw [pay37_form, smax_eq v k hv, Ideal.scalar_maximumf_def]
theorem pay38_eq (g : EReal) (v : S1x8x128.Idx → EReal) (k : EReal) (hv : ∀ i, v i = k) :
    k0_pay38 (F := Ideal) g v = Ideal.div (max g k) (Ideal.ofBits .f32 0x43E00000#32) := by
  rw [pay38_form, smax_eq v k hv, Ideal.scalar_maximumf_def, Ideal.scalar_divf_def]
  exact congrArg _ rfl

variable (X : Dev nD → S1024x4096.Idx → EReal) (W : Dev nD → S4096x2048.Idx → EReal)

/-- The greatest magnitude over all the devices. -/
def gpeak : EReal := ⨆ c : Dev nD, dpeak (X c) (W c)

theorem src_all : ∀ c d : Dev nD, d = c ∨ d = src 0 c ∨ d = src 1 c ∨ d = src 2 c := by decide

/-- A device and the three it receives from are all of them. -/
theorem max_src (f : Dev nD → EReal) (c : Dev nD) : max (max (max (f c) (f (src 0 c))) (f (src 1 c))) (f (src 2 c)) = ⨆ d, f d := by
  refine eq_of_forall_ge_iff fun z => ?_
  rw [max_le_iff, max_le_iff, max_le_iff, iSup_le_iff]
  constructor
  · intro ⟨⟨⟨h, h0⟩, h1⟩, h2⟩ d
    rcases src_all c d with rfl | rfl | rfl | rfl <;> assumption
  · exact fun h => ⟨⟨⟨h _, h _⟩, h _⟩, h _⟩

/-- Every device's scale is the greatest magnitude of all over 448. -/
theorem scl_eq (c : Dev nD) : scl (F := Ideal) X W c = Ideal.div (gpeak X W) (Ideal.ofBits .f32 0x43E00000#32) := by
  unfold scl gm gpeak
  rw [← max_src (fun d => dpeak (X d) (W d)) c, pay38_eq _ _ _ (ambs_apply _ _), pay37_eq _ _ _ (ambs_apply _ _), pay36_eq _ _ _ (ambs_apply _ _), am_all]

end Cert.Value

end
-- ==== Proof.Value.Equation.lean ====
/- Each device's result is its block of columns of the reference's. -/
module

public import proofs.«01_k».proof.Proof.Value.Scale
public import Idealize.ShloMosaic.Lib.Layout

@[expose] public section

noncomputable section

namespace Cert.Value

open Idealize.ShloMosaic Idealize.ShloMosaic.ValueIdx Cert.KernelIdeal Cert.KernelIdeal.Gen Cert.KernelIdeal.Prf Cert.Own

section Forms
variable {F : FTy → Type} [FloatOps F]

/-- What the kernel rounds an entry to: the quotient by the scale, clipped. -/
def clipped (s y : F .f32) : F .fp8e4m3 :=
  FloatOps.truncf .fp8e4m3 Facts₀.bitsLt_fp8e4m3_f32
    (FloatOps.minimumf (Scalar.ofBits .f32 0x43E00000#32) (FloatOps.maximumf (Scalar.ofBits .f32 0xC3E00000#32) (FloatOps.divf y s)))

theorem pay39_form (g : F .f32) (v : Vec F S1x8x128 .f32) (y : Vec F S1024x512 .f32) :
    k0_pay39 g v y = shapeCast S1x1024x512 (fun i => clipped (k0_pay38 g v) (y i)) Facts₀.shapeCasts_S1024x512_S1x1024x512 := rfl

theorem pay44_form (s : F .f32) (q : Vec F S1x1024x512 .fp8e4m3) (i : S1024x512.Idx) :
    k0_pay44 s q i = FloatOps.mulf (FloatOps.extf .f32 Facts₀.bitsLt_fp8e4m3_f32 (shapeCast S1024x512 q Facts₀.shapeCasts_S1x1024x512_S1024x512 i)) s := rfl

theorem cast_cast {α : Type} {s t : Shape} (v : s.Idx → α) (h : s.ShapeCasts t) (h' : t.ShapeCasts s) :
    shapeCast s (shapeCast t v h) h' = v :=
  funext fun i => congrArg v ((Shape.reshapeEquiv_reshapeEquiv h h' i).trans (Shape.reshapeEquiv_self _ i))

/-- Rows from device `s` in the result of device `c`: that device's chunk, rounded by its scale and multiplied by this one's. -/
theorem ov_form (X : Dev nD → S1024x4096.Idx → Elt F .f32) (W : Dev nD → S4096x2048.Idx → Elt F .f32) (c : Dev nD) (s : Fin 4) (i : S1024x512.Idx) :
    ov X W c s i = FloatOps.mulf (FloatOps.extf .f32 Facts₀.bitsLt_fp8e4m3_f32 (clipped (scl X W s) (ych (X s) (W s) c i))) (scl X W c) := by
  unfold ov qv
  rw [pay44_form, pay39_form, cast_cast]
  rfl

end Forms

variable (X : Dev nD → S1024x4096.Idx → EReal) (W : Dev nD → S4096x2048.Idx → EReal)

theorem ov_snap (c : Dev nD) (s : Fin 4) (i : S1024x512.Idx) :
    ov (F := Ideal) X W c s i = snap (gpeak X W) (ych (F := Ideal) (X s) (W s) c i) := by
  rw [ov_form, scl_eq X W c, scl_eq X W s]
  rfl

section Whole
variable (A : Cert.ReferenceIdeal.S4096x4096.Idx → EReal) (B : S4096x2048.Idx → EReal)

/-- Rows `1024 c` and on. -/
abbrev rows (c : Dev nD) : S1024x4096.Idx → EReal := Layout.block ⟨2, ![1024, 4096]⟩ ⟨2, ![4096, 4096]⟩ 0 4 c A

/-- A device's product is its rows of the whole. -/
theorem yv_rows (c : Dev nD) (r : Fin 1024) (j : Fin 2048) (R : Fin 4096) (hR : R.val = c.val * 1024 + r.val) :
    yv (F := Ideal) (rows A c) B (ix2 r j) = prod A B (ix2 R j) := by
  rw [yv_apply, prod_apply]
  refine Finset.sum_congr rfl fun k _ => congrArg (· * B (ix2 k j)) (congrArg A ?_)
  funext a
  apply Fin.ext
  fin_cases a
  · exact hR.symm
  · rfl

/-- The greatest magnitude over the devices is that of the whole product. -/
theorem gpeak_whole : gpeak (rows A) (fun _ => B) = ⨆ i, mag (prod A B i) := by
  refine eq_of_forall_ge_iff fun z => ?_
  unfold gpeak dpeak
  simp only [iSup_le_iff]
  constructor
  · intro h i
    have h0 : (i 0).val < 4096 := (i 0).isLt
    have e := yv_rows A B ⟨(i 0).val / 1024, by show (i 0).val / 1024 < 4; omega⟩ ⟨(i 0).val % 1024, by omega⟩ (i 1) (i 0) (by show (i 0).val = (i 0).val / 1024 * 1024 + (i 0).val % 1024; omega)
    have h' := h ⟨(i 0).val / 1024, by show (i 0).val / 1024 < 4; omega⟩ (ix2 (n0 := 1024) (n1 := 2048) ⟨(i 0).val % 1024, by omega⟩ (i 1))
    rw [e] at h'
    rw [eq_ix2 i]
    exact h'
  · intro h c j
    have hc : c.val < 4 := c.isLt
    have h0 : (j 0).val < 1024 := (j 0).isLt
    have h' := h (ix2 (n0 := 4096) (n1 := 2048) ⟨c.val * 1024 + (j 0).val, by omega⟩ (j 1))
    rw [← yv_rows A B c (j 0) (j 1) ⟨c.val * 1024 + (j 0).val, by omega⟩ rfl] at h'
    rw [eq_ix2 j]
    exact h'

/-- Each device's result is its block of columns of the reference's. -/
theorem equation (c : Dev nD) :
    outAt (F := Ideal) (rows A) (fun _ => B) c
      = Layout.block ⟨2, ![4096, 512]⟩ ⟨2, ![4096, 2048]⟩ 1 4 c (Cert.ReferenceIdeal.Value.G2 (F := Ideal) A B) := by
  funext i
  have hc : c.val < 4 := c.isLt
  have h0 : (i 0).val < 4096 := (i 0).isLt
  have h1 : (i 1).val < 512 := (i 1).isLt
  rw [Layout.block_apply, ref_apply, ← gpeak_whole]
  unfold outAt
  rw [ov_snap]
  refine congrArg (snap _) ?_
  unfold ych
  have e := yv_rows A B ⟨(i 0).val / 1024, by show (i 0).val / 1024 < 4; omega⟩ ⟨(i 0).val % 1024, by omega⟩ ⟨512 * c.val + (i 1).val, by omega⟩ (i 0) (by show (i 0).val = (i 0).val / 1024 * 1024 + (i 0).val % 1024; omega)
  refine Eq.trans (congrArg (yv (F := Ideal) _ B) ?_) (e.trans (congrArg (prod A B) ?_))
  · funext a
    apply Fin.ext
    fin_cases a
    · show 0 + 1 * ((i 0).val % 1024) = (i 0).val % 1024
      omega
    · show 512 * c.val + 1 * (i 1).val = 512 * c.val + (i 1).val
      omega
  · funext a
    apply Fin.ext
    fin_cases a
    · rfl
    · show 512 * c.val + (i 1).val = c.val * 512 + (i 1).val
      omega

end Whole

end Cert.Value

end
-- ==== Proof.Value.Claim.lean ====
/- The value claim: the kernel's runs and the reference's end with the same result. -/
module

public import proofs.«01_k».proof.Defs
public import proofs.«01_k».proof.Proof.Value.Arrays
public import proofs.«01_k».proof.Proof.Value.Equation

@[expose] public section

noncomputable section

namespace Cert.Value

open Idealize.ShloMosaic Idealize.ShloMosaic.TcCoe Idealize.SL.Sem

theorem same : Cert.algebraic_KernelIdeal_ReferenceIdeal (hKernelIdeal := Cert.KernelIdeal.Gen.facts) (hReferenceIdeal := Cert.ReferenceIdeal.Gen.facts) := by
  intro m ρ m' ρ' _ hagree
  refine ⟨Cert.ReferenceIdeal.Value.G2 (F := Ideal)
    (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1)), ?_, ?_⟩
  · refine (θ_run Cert.KernelIdeal.defs _ _).mono (fun r h c => ⟨(h c).1.trans ?_, (h c).2⟩) (run (F := Ideal) m ρ)
    rw [← equation]
    exact congrArg₂ (fun X W => Cert.KernelIdeal.Prf.outAt (F := Ideal) X W c) (funext fun d => (hagree d).1) (funext fun d => (hagree d).2)
  · exact (θ_run Cert.ReferenceIdeal.defs _ _).mono (fun r h => h 0) (Cert.ReferenceIdeal.Value.run (F := Ideal) m' ρ')

end Cert.Value

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Kernel.Run
public import proofs.«01_k».proof.Proof.KernelIdeal.Run
public import proofs.«01_k».proof.Proof.Value.Claim
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  fun m ρ _ => Cert.Kernel.Prf.frame m ρ,
  fun m ρ _ => Cert.KernelIdeal.Prf.frame m ρ,
  fun m ρ _ => Cert.ReferenceIdeal.Gen.frame m ρ, trivial, Cert.Value.same⟩

end Cert.Proof

end
